-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S8x256x1024 : Shape := ⟨3, ![8, 256, 1024]⟩
abbrev S8 : Shape := ⟨1, ![8]⟩
abbrev S_ : Shape := ⟨0, ![]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S128x1024 : Shape := ⟨2, ![128, 1024]⟩
abbrev S128x128 : Shape := ⟨2, ![128, 128]⟩
abbrev S128x256 : Shape := ⟨2, ![128, 256]⟩
abbrev S128 : Shape := ⟨1, ![128]⟩
abbrev S128x1 : Shape := ⟨2, ![128, 1]⟩
abbrev S1x128x1024 : Shape := ⟨3, ![1, 128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_6 : BitVec 32 := 1#32
  let v11 : BitVec 32 := Scalar.muli v8 c1_i32_6
  let v12 : BitVec 32 := Scalar.addi c0_i32 v11
  v12.toNat
def k0_dev2 (d0 : Dev nD) : Nat :=
  let c0_i32_9 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_8 : BitVec 32 := 1#32
  let v13 : BitVec 32 := Scalar.muli v9 c1_i32_8
  let v14 : BitVec 32 := Scalar.addi c0_i32_9 v13
  v14.toNat
def k0_off1 (d0 : Dev nD) : Fin 2 → Nat :=
  let c1_i32_25 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v37 : BitVec 32 := Scalar.subi c1_i32_25 v5
  let c256_i32 : BitVec 32 := 256#32
  let v38 : BitVec 32 := Scalar.muli v37 c256_i32
  let v39 : Index := Scalar.indexCast v38
  let c0_26 : Index := 0#32
  ![v39.toNat, 0]
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_78 : BitVec 32 := 1#32
  let v192 : BitVec 32 := Scalar.muli v8 c1_i32_78
  let v193 : BitVec 32 := Scalar.addi c0_i32_79 v192
  v193.toNat
def k0_off2 (d0 : Dev nD) : Fin 2 → Nat :=
  let c3_i32_84 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrsi v2 c1_i32_2
  let c1_i32_3 : BitVec 32 := 1#32
  let v7 : BitVec 32 := Scalar.andi v6 c1_i32_3
  let v202 : BitVec 32 := Scalar.subi c3_i32_84 v7
  let c256_i32_85 : BitVec 32 := 256#32
  let v203 : BitVec 32 := Scalar.muli v202 c256_i32_85
  let v204 : Index := Scalar.indexCast v203
  let c0_86 : Index := 0#32
  ![v204.toNat, 0]
def k0_dev4 (d0 : Dev nD) : Nat :=
  let c0_i32_139 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_138 : BitVec 32 := 1#32
  let v357 : BitVec 32 := Scalar.muli v9 c1_i32_138
  let v358 : BitVec 32 := Scalar.addi c0_i32_139 v357
  v358.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c256_i32_144 : BitVec 32 := 256#32
  let v367 : BitVec 32 := Scalar.muli v5 c256_i32_144
  let v368 : Index := Scalar.indexCast v367
  let c0_145 : Index := 0#32
  ![v368.toNat, 0]
def k0_off4 (d0 : Dev nD) : Fin 2 → Nat :=
  let c2_i32_22 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v34 : BitVec 32 := Scalar.muli c2_i32_22 v5
  let c128_i32 : BitVec 32 := 128#32
  let v531 : BitVec 32 := Scalar.muli v34 c128_i32
  let v532 : Index := Scalar.indexCast v531
  let c0_210 : Index := 0#32
  ![v532.toNat, 0]
def k0_dev5 (d0 : Dev nD) : Nat :=
  let c0_i32_222 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_221 : BitVec 32 := 1#32
  let v545 : BitVec 32 := Scalar.muli v9 c1_i32_221
  let v546 : BitVec 32 := Scalar.addi c0_i32_222 v545
  v546.toNat
def k0_off5 (d0 : Dev nD) : Fin 2 → Nat :=
  let c2_i32_227 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrsi v2 c1_i32_2
  let c1_i32_3 : BitVec 32 := 1#32
  let v7 : BitVec 32 := Scalar.andi v6 c1_i32_3
  let v555 : BitVec 32 := Scalar.addi c2_i32_227 v7
  let c256_i32_228 : BitVec 32 := 256#32
  let v556 : BitVec 32 := Scalar.muli v555 c256_i32_228
  let v557 : Index := Scalar.indexCast v556
  let c0_229 : Index := 0#32
  ![v557.toNat, 0]
def k0_off6 (d0 : Dev nD) (c0_i32_233 : BitVec 32) : Fin 2 → Nat :=
  let c2_i32_227 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrsi v2 c1_i32_2
  let c1_i32_3 : BitVec 32 := 1#32
  let v7 : BitVec 32 := Scalar.andi v6 c1_i32_3
  let v555 : BitVec 32 := Scalar.addi c2_i32_227 v7
  let c256_i32_232 : BitVec 32 := 256#32
  let v563 : BitVec 32 := Scalar.muli v555 c256_i32_232
  let v564 : BitVec 32 := Scalar.addi v563 c0_i32_233
  let v565 : Index := Scalar.indexCast v564
  let c0_234 : Index := 0#32
  ![v565.toNat, 0]
def k0_off7 (d0 : Dev nD) : Fin 2 → Nat :=
  let c4_i32_24 : BitVec 32 := 4#32
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrsi v2 c1_i32_2
  let c1_i32_3 : BitVec 32 := 1#32
  let v7 : BitVec 32 := Scalar.andi v6 c1_i32_3
  let v35 : BitVec 32 := Scalar.muli c2_i32_23 v7
  let v36 : BitVec 32 := Scalar.addi c4_i32_24 v35
  let c128_i32_297 : BitVec 32 := 128#32
  let v724 : BitVec 32 := Scalar.muli v36 c128_i32_297
  let v725 : Index := Scalar.indexCast v724
  let c0_298 : Index := 0#32
  ![v725.toNat, 0]
def k0_dev6 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_309 : BitVec 32 := 1#32
  let v738 : BitVec 32 := Scalar.muli v8 c1_i32_309
  let v739 : BitVec 32 := Scalar.addi c0_i32_310 v738
  v739.toNat
def k0_off8 (d0 : Dev nD) : Fin 2 → Nat :=
  let c4_i32_24 : BitVec 32 := 4#32
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrsi v2 c1_i32_2
  let c1_i32_3 : BitVec 32 := 1#32
  let v7 : BitVec 32 := Scalar.andi v6 c1_i32_3
  let v35 : BitVec 32 := Scalar.muli c2_i32_23 v7
  let v36 : BitVec 32 := Scalar.addi c4_i32_24 v35
  let c1_i32_362 : BitVec 32 := 1#32
  let v896 : BitVec 32 := Scalar.addi v36 c1_i32_362
  let c128_i32_363 : BitVec 32 := 128#32
  let v897 : BitVec 32 := Scalar.muli v896 c128_i32_363
  let v898 : Index := Scalar.indexCast v897
  let c0_364 : Index := 0#32
  ![v898.toNat, 0]
def k0_dev7 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_374 : BitVec 32 := 1#32
  let v911 : BitVec 32 := Scalar.muli v8 c1_i32_374
  let v912 : BitVec 32 := Scalar.addi c0_i32_375 v911
  v912.toNat
def k0_dev8 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_411 : BitVec 32 := 1#32
  let v949 : BitVec 32 := Scalar.muli v8 c1_i32_411
  let v950 : BitVec 32 := Scalar.addi c0_i32_412 v949
  v950.toNat
def k0_dev9 (d0 : Dev nD) : Nat :=
  let c0_i32_448 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_447 : BitVec 32 := 1#32
  let v987 : BitVec 32 := Scalar.muli v9 c1_i32_447
  let v988 : BitVec 32 := Scalar.addi c0_i32_448 v987
  v988.toNat
def k0_dev10 (d0 : Dev nD) : Nat :=
  let c0_i32_486 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_485 : BitVec 32 := 1#32
  let v1026 : BitVec 32 := Scalar.muli v9 c1_i32_485
  let v1027 : BitVec 32 := Scalar.addi c0_i32_486 v1026
  v1027.toNat
def k0_off9 (d0 : Dev nD) : Fin 2 → Nat :=
  let c2_i32_511 : BitVec 32 := 2#32
  let c1_i32_510 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v1050 : BitVec 32 := Scalar.subi c1_i32_510 v5
  let v1051 : BitVec 32 := Scalar.muli c2_i32_511 v1050
  let c128_i32_512 : BitVec 32 := 128#32
  let v1052 : BitVec 32 := Scalar.muli v1051 c128_i32_512
  let v1056 : Index := Scalar.indexCast v1052
  let c0_516 : Index := 0#32
  ![v1056.toNat, 0]
def k0_off10 (d0 : Dev nD) : Fin 2 → Nat :=
  let c4_i32_557 : BitVec 32 := 4#32
  let c2_i32_556 : BitVec 32 := 2#32
  let c1_i32_555 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrsi v2 c1_i32_2
  let c1_i32_3 : BitVec 32 := 1#32
  let v7 : BitVec 32 := Scalar.andi v6 c1_i32_3
  let v1086 : BitVec 32 := Scalar.subi c1_i32_555 v7
  let v1087 : BitVec 32 := Scalar.muli c2_i32_556 v1086
  let v1088 : BitVec 32 := Scalar.addi c4_i32_557 v1087
  let c128_i32_558 : BitVec 32 := 128#32
  let v1089 : BitVec 32 := Scalar.muli v1088 c128_i32_558
  let v1093 : Index := Scalar.indexCast v1089
  let c0_562 : Index := 0#32
  ![v1093.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x256x4096 : Shape := ⟨3, ![4, 256, 4096]⟩
abbrev S4x256x32x128 : Shape := ⟨4, ![4, 256, 32, 128]⟩
abbrev S_ : Shape := ⟨0, ![]⟩
abbrev S4x32x256x1 : Shape := ⟨4, ![4, 32, 256, 1]⟩
abbrev S4x32x256x256 : Shape := ⟨4, ![4, 32, 256, 256]⟩
abbrev S4x32x256 : Shape := ⟨3, ![4, 32, 256]⟩
abbrev S4x256x32x1 : Shape := ⟨4, ![4, 256, 32, 1]⟩
abbrev S4x32x128x256 : Shape := ⟨4, ![4, 32, 128, 256]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S4x256x4096, .f32⟩
  | .hbm, ⟨6, _⟩ => ⟨S4x256x32x128, .f32⟩
  | .hbm, ⟨7, _⟩ => ⟨S4x256x4096, .f32⟩
  | .hbm, ⟨8, _⟩ => ⟨S4x256x32x128, .f32⟩
  | .hbm, ⟨9, _⟩ => ⟨S4x256x4096, .f32⟩
  | .hbm, ⟨10, _⟩ => ⟨S4x256x32x128, .f32⟩
  | .hbm, ⟨11, _⟩ => ⟨S_, .f32⟩
  | .hbm, ⟨12, _⟩ => ⟨S4x256x32x128, .f32⟩
  | .hbm, ⟨13, _⟩ => ⟨S_, .f32⟩
  | .hbm, ⟨14, _⟩ => ⟨S4x32x256x1, .f32⟩
  | .hbm, ⟨15, _⟩ => ⟨S_, .f32⟩
  | .hbm, ⟨16, _⟩ => ⟨S4x32x256x1, .f32⟩
  | .hbm, ⟨17, _⟩ => ⟨S4x32x256x256, .f32⟩
  | .hbm, ⟨18, _⟩ => ⟨S_, .f32⟩
  | .hbm, ⟨19, _⟩ => ⟨S4x32x256x256, .f32⟩
  | .hbm, ⟨20, _⟩ => ⟨S4x32x256x256, .f32⟩
  | .hbm, ⟨21, _⟩ => ⟨S_, .f32⟩
  | .hbm, ⟨22, _⟩ => ⟨S4x32x256, .f32⟩
  | .hbm, ⟨23, _⟩ => ⟨S4x32x256x1, .f32⟩
  | .hbm, ⟨24, _⟩ => ⟨S4x32x256x1, .f32⟩
  | .hbm, ⟨25, _⟩ => ⟨S4x32x256x1, .f32⟩
  | .hbm, ⟨26, _⟩ => ⟨S4x32x256x1, .f32⟩
  | .hbm, ⟨27, _⟩ => ⟨S4x32x256x256, .f32⟩
  | .hbm, ⟨28, _⟩ => ⟨S4x32x256x256, .f32⟩
  | .hbm, ⟨29, _⟩ => ⟨S4x32x256x256, .f32⟩
  | .hbm, ⟨30, _⟩ => ⟨S4x32x256x1, .f32⟩
  | .hbm, ⟨31, _⟩ => ⟨S_, .f32⟩
  | .hbm, ⟨32, _⟩ => ⟨S4x32x256, .f32⟩
  | .hbm, ⟨33, _⟩ => ⟨S4x32x256x1, .f32⟩
  | .hbm, ⟨34, _⟩ => ⟨S4x32x256x1, .f32⟩
  | .hbm, ⟨35, _⟩ => ⟨S4x256x32x1, .f32⟩
  | .hbm, ⟨36, _⟩ => ⟨S4x256x32x128, .f32⟩
  | .hbm, ⟨37, _⟩ => ⟨S4x256x32x128, .f32⟩
  | .hbm, ⟨38, _⟩ => ⟨S4x32x128x256, .f32⟩
  | .hbm, ⟨39, _⟩ => ⟨S4x256x32x128, .f32⟩
  | .hbm, ⟨40, _⟩ => ⟨S4x256x32x128, .f32⟩
  | .hbm, ⟨41, _⟩ => ⟨S4x256x32x1, .f32⟩
  | .hbm, ⟨42, _⟩ => ⟨S4x256x32x128, .f32⟩
  | .hbm, ⟨43, _⟩ => ⟨S4x256x32x128, .f32⟩
  | .hbm, ⟨44, _⟩ => ⟨S4x256x4096, .f32⟩
  | .hbm, ⟨45, _⟩ => ⟨S4x256x1024, .f32⟩
  | .hbm, ⟨46, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Pieces.lean ====
/-
# Pieces: unit-stride boxes of a buffer, held whole by one device

The head-sharded attention kernel works on boxes of its buffers: a row block of the output, one staging slot, one
landing slot, one half of a slot. Everything the run needs about such a box is proved here once: read it, overwrite
it, read a box inside it, send it to another device, cut it in two and join it again.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex

@[expose] public section

noncomputable section

namespace Cert.HeadShard

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds beside the exchange's (its duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`'s core. -/
abbrev wpd (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A conjunction over a finite set, weakened member by member. -/
theorem bigSep_imp {I : Type} {T : Finset I} {P R : I → sProp 𝕄} (h : ∀ i ∈ T, P i ⊢ R i) : bigSep T P ⊢ bigSep T R := bigSep_mono h

/-- One member of a conjunction over a finite set. -/
theorem bigSep_one {I : Type} [DecidableEq I] {T : Finset I} {P : I → sProp 𝕄} {i : I} (h : i ∈ T) : bigSep T P ⊢ P i := bigSep_elim h

section Held

variable {s : Shape} {e : EltTy}

/-- Device `c` holds the box of `m` at `off`, `size` long, and the box reads `X`. -/
def held (c : Dev nD) (m : Memref sig .tc .vmem s e) (off size : Fin s.rank → ℕ) (inb : ∀ a, off a + size a ≤ s.size a)
    (X : Shape.Idx ⟨s.rank, size⟩ → Elt F e) : sProp 𝕄 :=
  iprop(∃ f : Buf (Elt F) ((m.access (Rect.unit off size inb)).loc (c : Thread nD τ)),
    ⌜(m.access (Rect.unit off size inb)).read (Elt F) f = X⌝
      ∗ ((m.access (Rect.unit off size inb)).loc (c : Thread nD τ) ↦[(m.access (Rect.unit off size inb)).set]{fullShare} f))

/-- The same at some contents. -/
def heldAny (c : Dev nD) (m : Memref sig .tc .vmem s e) (off size : Fin s.rank → ℕ) (inb : ∀ a, off a + size a ≤ s.size a) : sProp 𝕄 :=
  iprop(∃ X, held c m off size inb X)

instance held_storable (c : Dev nD) (m : Memref sig .tc .vmem s e) (off size : Fin s.rank → ℕ) (inb : ∀ a, off a + size a ≤ s.size a)
    (X : Shape.Idx ⟨s.rank, size⟩ → Elt F e) : BI.Storable (upEmb : UEmb _ 𝕄) (held c m off size inb X) := by
  unfold held; infer_instance

instance heldAny_storable (c : Dev nD) (m : Memref sig .tc .vmem s e) (off size : Fin s.rank → ℕ) (inb : ∀ a, off a + size a ≤ s.size a) :
    BI.Storable (upEmb : UEmb _ 𝕄) (heldAny (F := F) c m off size inb) := by
  unfold heldAny; infer_instance

theorem held_any (c : Dev nD) (m : Memref sig .tc .vmem s e) (off size : Fin s.rank → ℕ) (inb : ∀ a, off a + size a ≤ s.size a)
    (X : Shape.Idx ⟨s.rank, size⟩ → Elt F e) : held c m off size inb X ⊢ heldAny c m off size inb := by
  unfold heldAny; iintro H; iexists X; iexact H

/-- A box is the same at an equal offset. -/
theorem held_off (c : Dev nD) (m : Memref sig .tc .vmem s e) {off off' size : Fin s.rank → ℕ} (h : off = off') (inb : ∀ a, off a + size a ≤ s.size a)
    (inb' : ∀ a, off' a + size a ≤ s.size a) (X : Shape.Idx ⟨s.rank, size⟩ → Elt F e) : held c m off size inb X = held c m off' size inb' X := by
  subst h; rfl

/-- Reading a held box: the program goes on at its contents. -/
theorem held_load {α : Type} {Q : α → sProp 𝕄} (c : Dev nD) (m : Memref sig .tc .vmem s e) {off off' size : Fin s.rank → ℕ} (h : off = off') {inb : ∀ a, off a + size a ≤ s.size a}
    {inb' : ∀ a, off' a + size a ≤ s.size a} {X : Shape.Idx ⟨s.rank, size⟩ → Elt F e}
    {hl : m.view.LoadsAt (Rect.unit off size inb).toLoadRect} {k : (Shape.Idx ⟨s.rank, size⟩ → Elt F e) → Prog (TpuEff nD τ sig (Elt F) Λ₀ .tc) α} :
    held c m off' size inb' X
      ⊢ iprop((held c m off' size inb' X -∗ wpd c (k X) Q) -∗ wpd c (.op (.load m (Rect.unit off size inb).toLoadRect hl) k) Q) := by
  subst h
  unfold held
  iintro ⟨%f, %hf, H⟩ Hk
  iapply (wp_load_rect 𝒱₀ (c : Thread nD τ) none Set.univ (m := m) (r := Rect.unit off size inb) (hl := hl) (k := k) (Finset.Subset.refl _)) $$ [H]
  · iexact H
  rw [hf]
  iintro H
  iapply Hk
  iexists f
  isplitr; · ipureintro; exact hf
  iexact H

/-- Reading a box that lies inside a held one. -/
theorem held_load_inside {α : Type} {Q : α → sProp 𝕄} (c : Dev nD) (m : Memref sig .tc .vmem s e) {off off' size size' : Fin s.rank → ℕ} {inb : ∀ a, off a + size a ≤ s.size a}
    {inb' : ∀ a, off' a + size' a ≤ s.size a} {X : Shape.Idx ⟨s.rank, size'⟩ → Elt F e}
    (j : Shape.Idx ⟨s.rank, size⟩ → Shape.Idx ⟨s.rank, size'⟩) (hj : ∀ x a, off a + (x a).val = off' a + (j x a).val)
    {hl : m.view.LoadsAt (Rect.unit off size inb).toLoadRect} {k : (Shape.Idx ⟨s.rank, size⟩ → Elt F e) → Prog (TpuEff nD τ sig (Elt F) Λ₀ .tc) α} :
    held c m off' size' inb' X
      ⊢ iprop((held c m off' size' inb' X -∗ wpd c (k (fun x => X (j x))) Q) -∗ wpd c (.op (.load m (Rect.unit off size inb).toLoadRect hl) k) Q) := by
  have key : ∀ x, (Rect.unit off size inb).emb x = (Rect.unit off' size' inb').emb (j x) := fun x => funext fun a => Fin.ext <| by
    have := hj x a
    simpa using this
  have hsub : (m.access (Rect.unit off size inb)).set ⊆ (m.access (Rect.unit off' size' inb')).set := fun i hi => by
    obtain ⟨x, -, rfl⟩ := Finset.mem_map.1 hi
    have : (m.access (Rect.unit off size inb)).emb x = (m.access (Rect.unit off' size' inb')).emb (j x) := congrArg m.view.emb (key x)
    rw [this]
    exact View.emb_mem_set _ _
  unfold held
  iintro ⟨%f, %hf, H⟩ Hk
  have hr : (m.access (Rect.unit off size inb)).read (Elt F) f = fun x => X (j x) := by
    funext x
    rw [← hf]
    show _root_.cast _ (f (m.view.emb ((Rect.unit off size inb).emb x))) = _root_.cast _ (f (m.view.emb ((Rect.unit off' size' inb').emb (j x))))
    rw [key x]
  iapply (wp_load_rect 𝒱₀ (c : Thread nD τ) none Set.univ (m := m) (r := Rect.unit off size inb) (hl := hl) (k := k) hsub) $$ [H]
  · iexact H
  rw [hr]
  iintro H
  iapply Hk
  iexists f
  isplitr; · ipureintro; exact hf
  iexact H

/-- Overwriting a held box. -/
theorem held_store {α : Type} {Q : α → sProp 𝕄} (c : Dev nD) (m : Memref sig .tc .vmem s e) {off off' size : Fin s.rank → ℕ} (h : off = off') {inb : ∀ a, off a + size a ≤ s.size a}
    {inb' : ∀ a, off' a + size a ≤ s.size a} {X : Shape.Idx ⟨s.rank, size⟩ → Elt F e} {w : Shape.Idx ⟨s.rank, size⟩ → Elt F e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ₀ .tc) α} :
    held c m off' size inb' X
      ⊢ iprop((held c m off' size inb' w -∗ wpd c (k ⟨⟩) Q) -∗ wpd c (.op (.store m (Rect.unit off size inb) w Finset.univ hx hm) k) Q) := by
  subst h
  unfold held
  iintro ⟨%f, %hf, H⟩ Hk
  iapply (wp_store 𝒱₀ (c : Thread nD τ) none Set.univ (m := m) (r := Rect.unit off size inb) (w := w) (Mk := Finset.univ) (hx := hx) (hm := hm) (k := k)
    (Finset.Subset.refl _)) $$ [H]
  · iexact H
  iintro H
  iapply Hk
  iexists ((m.access (Rect.unit off size inb)).write (Elt F) f w Finset.univ)
  isplitr; · ipureintro; exact View.read_write_univ _ _
  iexact H

/-! ### Cutting a buffer into boxes, and joining boxes -/

variable {n : ℕ} (c : Dev nD) (m : Memref sig .tc .vmem s e) (off size : Fin n → Fin s.rank → ℕ) (inb : ∀ t a, off t a + size t a ≤ s.size a)

/-- The elements of box `t`. -/
abbrev boxSet (t : Fin n) : Finset (Idx (m.view.loc (c : Thread nD τ))) := (m.access (Rect.unit (off t) (size t) (inb t))).set

omit [FloatOps F] in
theorem boxSet_disjoint (hd : ∀ t t', t ≠ t' → ∃ a, off t a + size t a ≤ off t' a ∨ off t' a + size t' a ≤ off t a) (t t' : Fin n) (h : t ≠ t') :
    Disjoint (boxSet c m off size inb t) (boxSet c m off size inb t') := by
  obtain ⟨a, ha⟩ := hd t t' h
  exact View.disjoint_slice (Rect.unit_disjoint a ha)

/-- Elements held at `f`, cut into disjoint boxes that make them up. -/
theorem held_split (hd : ∀ t t', t ≠ t' → ∃ a, off t a + size t a ≤ off t' a ∨ off t' a + size t' a ≤ off t a)
    {S : Finset (Idx (m.view.loc (c : Thread nD τ)))} (hS : S = Finset.univ.biUnion (boxSet c m off size inb)) (f : Buf (Elt F) (m.view.loc (c : Thread nD τ))) :
    (m.view.loc (c : Thread nD τ) ↦[S]{fullShare} f : sProp 𝕄)
      ⊢ bigSep Finset.univ fun t => held c m (off t) (size t) (inb t) ((m.access (Rect.unit (off t) (size t) (inb t))).read (Elt F) f) := by
  subst hS
  rw [pointsTo_biUnion _ _ (fun t _ t' _ h => boxSet_disjoint c m off size inb hd t t' h)]
  refine bigSep_imp fun t _ => ?_
  unfold held
  iintro H
  iexists f
  isplitr; · ipureintro; rfl
  iexact H

/-- Disjoint boxes joined: their elements are held at one content, which each box reads as it did. -/
theorem held_join [Nonempty (Fin n)] (hd : ∀ t t', t ≠ t' → ∃ a, off t a + size t a ≤ off t' a ∨ off t' a + size t' a ≤ off t a)
    {S : Finset (Idx (m.view.loc (c : Thread nD τ)))} (hS : S = Finset.univ.biUnion (boxSet c m off size inb)) (X : ∀ t, Shape.Idx ⟨s.rank, size t⟩ → Elt F e) :
    (bigSep Finset.univ fun t => held c m (off t) (size t) (inb t) (X t) : sProp 𝕄)
      ⊢ iprop(∃ f : Buf (Elt F) (m.view.loc (c : Thread nD τ)), ⌜∀ t, (m.access (Rect.unit (off t) (size t) (inb t))).read (Elt F) f = X t⌝
          ∗ (m.view.loc (c : Thread nD τ) ↦[S]{fullShare} f)) := by
  classical
  subst hS
  by_cases hX : ∀ t, Nonempty {f : Buf (Elt F) (m.view.loc (c : Thread nD τ)) // (m.access (Rect.unit (off t) (size t) (inb t))).read (Elt F) f = X t}
  · have h₁ : (bigSep Finset.univ fun t => held c m (off t) (size t) (inb t) (X t) : sProp 𝕄)
        ⊢ bigSep Finset.univ fun t => iprop(∃ p : {f : Buf (Elt F) (m.view.loc (c : Thread nD τ)) // (m.access (Rect.unit (off t) (size t) (inb t))).read (Elt F) f = X t},
            (m.view.loc (c : Thread nD τ) ↦[boxSet c m off size inb t]{fullShare} p.1)) := bigSep_imp fun t _ => by
      unfold held
      iintro ⟨%f, %hf, H⟩
      iexists (⟨f, hf⟩ : {f : Buf (Elt F) (m.view.loc (c : Thread nD τ)) // (m.access (Rect.unit (off t) (size t) (inb t))).read (Elt F) f = X t})
      iexact H
    refine h₁.trans ((BI.bigSep_exists_pi _ _).trans ?_)
    iintro ⟨%p, H⟩
    have hdj := boxSet_disjoint c m off size inb hd
    let g : Buf (Elt F) (m.view.loc (c : Thread nD τ)) := fun i =>
      if h : ∃ t, i ∈ boxSet c m off size inb t then (p h.choose).1 i else (p (Classical.arbitrary _)).1 i
    have hg : ∀ t, ∀ i ∈ boxSet c m off size inb t, (p t).1 i = g i := fun t i hi => by
      have hex : ∃ t, i ∈ boxSet c m off size inb t := ⟨t, hi⟩
      have : hex.choose = t := by
        by_contra hne
        exact Finset.disjoint_left.1 (hdj _ _ hne) hex.choose_spec hi
      simp only [g, dif_pos hex]; rw [this]
    iexists g
    isplitr
    · ipureintro
      intro t
      rw [← (p t).2]
      exact View.read_congr fun i hi => (hg t i hi).symm
    rw [pointsTo_biUnion _ _ (fun t _ t' _ h => hdj t t' h)]
    have h₂ : (bigSep Finset.univ fun t => iprop(m.view.loc (c : Thread nD τ) ↦[boxSet c m off size inb t]{fullShare} (p t).1) : sProp 𝕄)
        ⊢ bigSep Finset.univ fun t => iprop(m.view.loc (c : Thread nD τ) ↦[boxSet c m off size inb t]{fullShare} g) :=
      bigSep_imp fun t _ => Entails.of_eq (pointsTo_congr (hg t))
    iapply h₂
    iexact H
  · push Not at hX
    obtain ⟨t, ht⟩ := hX
    have hmem : t ∈ (Finset.univ : Finset (Fin n)) := Finset.mem_univ t
    refine (bigSep_one hmem).trans ?_
    unfold held
    iintro ⟨%f, %hf, H⟩
    exact absurd ⟨(⟨f, hf⟩ : {f : Buf (Elt F) (m.view.loc (c : Thread nD τ)) // (m.access (Rect.unit (off t) (size t) (inb t))).read (Elt F) f = X t})⟩ (not_nonempty_iff.2 ht)

end Held

/-! ## One transfer between two boxes, squeezed of their leading axis -/

section Transfer

variable {s s' : Shape} {e : EltTy}

/-- After a box re-indexed to another shape is overwritten with what another box of the same sizes reads through the
    same re-indexing, it reads what that box reads. -/
theorem read_transfer (m m' : Memref sig .tc .vmem s e) {off off' size : Fin s.rank → ℕ} (inb : ∀ a, off a + size a ≤ s.size a) (inb' : ∀ a, off' a + size a ≤ s.size a)
    {t : Shape} (h : t.numel = (⟨s.rank, size⟩ : Shape).numel)
    (f : m.view.ty.Contents (Elt F)) (g : m'.view.ty.Contents (Elt F)) :
    (m'.access (Rect.unit off' size inb')).read (Elt F)
        (((m'.view.slice (Rect.unit off' size inb')).reshape t h).write (Elt F) g (((m.view.slice (Rect.unit off size inb)).reshape t h).read (Elt F) f) Finset.univ)
      = (m.access (Rect.unit off size inb)).read (Elt F) f := by
  funext x
  obtain ⟨y, rfl⟩ := (Shape.reshapeEquiv h).surjective x
  exact View.read_write_reshape (v := m'.view.slice (Rect.unit off' size inb')) h g _ y

end Transfer

end Cert.HeadShard
-- ==== Proof.Contents.lean ====
/-
# What every buffer holds

The four devices form a square: `pa c` is the neighbour that shares the column block, `pb c` the one across. Each
device computes the attention partial of every batch with its own heads, row block by row block, and the partials are
summed by recursive halving, then spread by recursive doubling. This file names the devices, the row blocks and the
contents of each staged message and each row block of the output, as compositions of the kernel's own payloads.
-/
module

public import proofs.«01_k».proof.Proof.Pieces

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices and transfers -/

/-- The partner of the first halving step: it changes the low half of the batches. -/
def pa (c : Dev nD) : Dev nD := (![1, 0, 3, 2] : Fin 4 → Fin 4) c
/-- The partner of the second: it changes the high half. -/
def pb (c : Dev nD) : Dev nD := (![3, 2, 1, 0] : Fin 4 → Fin 4) c

theorem pa_pa (c : Dev nD) : pa (pa c) = c := by revert c; decide
theorem pb_pb (c : Dev nD) : pb (pb c) = c := by revert c; decide
theorem pa_ne (c : Dev nD) : pa c ≠ c := by revert c; decide
theorem pb_ne (c : Dev nD) : pb c ≠ c := by revert c; decide
theorem pa_ne_pb (c : Dev nD) : pa c ≠ pb c := by revert c; decide

/-- Whether transfer `k` goes to `pa` (otherwise to `pb`). -/
def viaA : Fin 8 → Bool := ![true, false, false, true, true, false, true, false]

/-- The device that transfer `k` of device `c` goes to; also the one whose transfer `k` comes to `c`. -/
def peer (k : Fin 8) (c : Dev nD) : Dev nD := if viaA k then pa c else pb c

theorem peer_peer (k : Fin 8) (c : Dev nD) : peer k (peer k c) = c := by
  unfold peer; split
  · exact pa_pa c
  · exact pb_pb c

theorem dev1_eq (c : Dev nD) : (⟨k0_dev1 c, k0_dev1_lt c⟩ : Dev nD) = pa c := by revert c; decide +kernel
theorem dev2_eq (c : Dev nD) : (⟨k0_dev2 c, k0_dev2_lt c⟩ : Dev nD) = pb c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 3 c := by revert c; decide +kernel
theorem dev7_eq (c : Dev nD) : (⟨k0_dev7 c, k0_dev7_lt c⟩ : Dev nD) = peer 6 c := by revert c; decide +kernel
theorem dev8_eq (c : Dev nD) : (⟨k0_dev8 c, k0_dev8_lt c⟩ : Dev nD) = peer 4 c := by revert c; decide +kernel
theorem dev9_eq (c : Dev nD) : (⟨k0_dev9 c, k0_dev9_lt c⟩ : Dev nD) = peer 5 c := by revert c; decide +kernel
theorem dev10_eq (c : Dev nD) : (⟨k0_dev10 c, k0_dev10_lt c⟩ : Dev nD) = peer 7 c := by revert c; decide +kernel

/-! ## Row blocks -/

/-- First row of the low batch given away, of the high batch given away, of the low batch kept, of the high batch kept. -/
def rLowGive (c : Dev nD) : ℕ := (![256, 0, 0, 256] : Fin 4 → ℕ) c
def rHighGive (c : Dev nD) : ℕ := (![768, 768, 512, 512] : Fin 4 → ℕ) c
def rLowKeep (c : Dev nD) : ℕ := (![0, 256, 256, 0] : Fin 4 → ℕ) c
def rHighKeep (c : Dev nD) : ℕ := (![512, 512, 768, 768] : Fin 4 → ℕ) c

theorem off1_eq (c : Dev nD) : k0_off1 c = ![rLowGive c, 0] := by revert c; decide +kernel
theorem off2_eq (c : Dev nD) : k0_off2 c = ![rHighGive c, 0] := by revert c; decide +kernel
theorem off3_eq (c : Dev nD) : k0_off3 c = ![rLowKeep c, 0] := by revert c; decide +kernel
theorem off4_eq (c : Dev nD) : k0_off4 c = ![rLowKeep c, 0] := by revert c; decide +kernel
theorem off5_eq (c : Dev nD) : k0_off5 c = ![rHighKeep c, 0] := by revert c; decide +kernel
theorem off6_top (c : Dev nD) : k0_off6 c 0#32 = ![rHighKeep c, 0] := by revert c; decide +kernel
theorem off6_bot (c : Dev nD) : k0_off6 c 128#32 = ![rHighKeep c + 128, 0] := by revert c; decide +kernel
theorem off7_eq (c : Dev nD) : k0_off7 c = ![rHighKeep c, 0] := by revert c; decide +kernel
theorem off8_eq (c : Dev nD) : k0_off8 c = ![rHighKeep c + 128, 0] := by revert c; decide +kernel
theorem off9_eq (c : Dev nD) : k0_off9 c = ![rLowGive c, 0] := by revert c; decide +kernel
theorem off10_eq (c : Dev nD) : k0_off10 c = ![rHighGive c, 0] := by revert c; decide +kernel

/-- An index of a block of rows starting at row `o`, as an index of the whole (1024 rows). -/
def down {n : ℕ} (o : ℕ) (x : (⟨2, ![n, 1024]⟩ : Shape).Idx) : S1024x1024.Idx :=
  fun a => match a with
    | ⟨0, _⟩ => ⟨(o + (x 0).val) % 1024, Nat.mod_lt _ (by decide)⟩
    | ⟨1, _⟩ => ⟨(x 1).val, (x 1).isLt⟩

/-- An index of half a slot starting at row `o`, as an index of the slot (256 rows). -/
def halfIn (o : ℕ) (x : S1x128x1024.Idx) : S1x256x1024.Idx :=
  fun a => match a with
    | ⟨0, _⟩ => ⟨(x 0).val, (x 0).isLt⟩
    | ⟨1, _⟩ => ⟨(o + (x 1).val) % 256, Nat.mod_lt _ (by decide)⟩
    | ⟨2, _⟩ => ⟨(x 2).val, (x 2).isLt⟩

/-- Two halves of a slot, one below the other. -/
def stack {e : EltTy} (t b : S1x128x1024.Idx → Elt F e) (x : S1x256x1024.Idx) : Elt F e :=
  if (x 1).val < 128 then t (fun a => match a with
      | ⟨0, _⟩ => ⟨(x 0).val, (x 0).isLt⟩
      | ⟨1, _⟩ => ⟨(x 1).val % 128, Nat.mod_lt _ (by decide)⟩
      | ⟨2, _⟩ => ⟨(x 2).val, (x 2).isLt⟩)
  else b (fun a => match a with
      | ⟨0, _⟩ => ⟨(x 0).val, (x 0).isLt⟩
      | ⟨1, _⟩ => ⟨(x 1).val % 128, Nat.mod_lt _ (by decide)⟩
      | ⟨2, _⟩ => ⟨(x 2).val, (x 2).isLt⟩)

/-! ## The inputs of one device, and its partials -/

variable (F) in
/-- The five inputs of a device: the activations and its heads' blocks of the four weights. -/
structure Ins where
  x : Vec F S4x256x1024 .f32
  wq : Vec F S1024x1024 .f32
  wk : Vec F S1024x1024 .f32
  wv : Vec F S1024x1024 .f32
  wo : Vec F S1024x1024 .f32

namespace Ins

variable (w : Ins F)

abbrev q : FVec F S1024x1024 .bf16 := k0_pay2 w.wq
abbrev k : FVec F S1024x1024 .bf16 := k0_pay3 w.wk
abbrev v : FVec F S1024x1024 .bf16 := k0_pay4 w.wv
abbrev o : FVec F S1024x1024 .bf16 := k0_pay5 w.wo

/-- The activations, row by row. -/
def rows : FVec F S1024x1024 .bf16 := k0_pay7 (k0_pay6 w.x)

/-- `n` rows of them from row `r`. -/
def rowsAt (n r : ℕ) : (⟨2, ![n, 1024]⟩ : Shape).Idx → Elt F .bf16 := fun x => w.rows (down r x)

/-- The first partial: the low batch given away. -/
def partA (z : Vec F S256x1024 .bf16) : FVec F S256x1024 .f32 :=
  k0_pay25 w.o (k0_pay8 w.q z) (k0_pay9 w.k z) (k0_pay10 w.v z) (k0_pay11 w.q w.k w.v z)
    (k0_pay14 (k0_pay12 w.v z) (k0_pay13 w.q w.k z))
    (k0_pay15 (k0_pay8 w.q z) (k0_pay9 w.k z) (k0_pay10 w.v z))
    (k0_pay16 (k0_pay8 w.q z) (k0_pay9 w.k z) (k0_pay10 w.v z))
    (k0_pay19 (k0_pay10 w.v z) (k0_pay17 (k0_pay8 w.q z)) (k0_pay18 (k0_pay9 w.k z)))
    (k0_pay20 (k0_pay8 w.q z) (k0_pay9 w.k z) (k0_pay10 w.v z))
    (k0_pay21 (k0_pay10 w.v z)) (k0_pay23 (k0_pay8 w.q z) (k0_pay9 w.k z)) (k0_pay24 (k0_pay8 w.q z) (k0_pay9 w.k z))

/-- The same, as staged. -/
def sentA (z : Vec F S256x1024 .bf16) : FVec F S1x256x1024 .bf16 :=
  k0_pay26 w.o (k0_pay8 w.q z) (k0_pay9 w.k z) (k0_pay10 w.v z) (k0_pay11 w.q w.k w.v z)
    (k0_pay14 (k0_pay12 w.v z) (k0_pay13 w.q w.k z))
    (k0_pay15 (k0_pay8 w.q z) (k0_pay9 w.k z) (k0_pay10 w.v z))
    (k0_pay16 (k0_pay8 w.q z) (k0_pay9 w.k z) (k0_pay10 w.v z))
    (k0_pay19 (k0_pay10 w.v z) (k0_pay17 (k0_pay8 w.q z)) (k0_pay18 (k0_pay9 w.k z)))
    (k0_pay20 (k0_pay8 w.q z) (k0_pay9 w.k z) (k0_pay10 w.v z))
    (k0_pay21 (k0_pay10 w.v z)) (k0_pay23 (k0_pay8 w.q z) (k0_pay9 w.k z)) (k0_pay24 (k0_pay8 w.q z) (k0_pay9 w.k z))

/-- The second partial: the high batch given away. -/
def partB (z : Vec F S256x1024 .bf16) : FVec F S256x1024 .f32 :=
  k0_pay46 w.o (k0_pay30 w.q w.k w.v z)
    (k0_pay35 (k0_pay31 w.v z) (k0_pay33 w.q w.k z) (k0_pay34 w.q w.k z) (constant S256x128 .f32 0x00000000#32))
    (k0_pay36 (k0_pay27 w.q z) (k0_pay28 w.k z) (k0_pay29 w.v z))
    (k0_pay37 (k0_pay27 w.q z) (k0_pay28 w.k z) (k0_pay29 w.v z))
    (k0_pay40 (k0_pay38 (k0_pay29 w.v z)) (k0_pay39 (k0_pay27 w.q z) (k0_pay28 w.k z)))
    (k0_pay41 (k0_pay27 w.q z) (k0_pay28 w.k z) (k0_pay29 w.v z))
    (k0_pay42 (k0_pay27 w.q z) (k0_pay28 w.k z) (k0_pay29 w.v z))
    (k0_pay43 (k0_pay29 w.v z)) (k0_pay44 (k0_pay27 w.q z) (k0_pay28 w.k z)) (k0_pay45 (F := F))

/-- The same, as staged. -/
def sentB (z : Vec F S256x1024 .bf16) : FVec F S1x256x1024 .bf16 :=
  k0_pay47 w.o (k0_pay30 w.q w.k w.v z)
    (k0_pay35 (k0_pay31 w.v z) (k0_pay33 w.q w.k z) (k0_pay34 w.q w.k z) (constant S256x128 .f32 0x00000000#32))
    (k0_pay36 (k0_pay27 w.q z) (k0_pay28 w.k z) (k0_pay29 w.v z))
    (k0_pay37 (k0_pay27 w.q z) (k0_pay28 w.k z) (k0_pay29 w.v z))
    (k0_pay40 (k0_pay38 (k0_pay29 w.v z)) (k0_pay39 (k0_pay27 w.q z) (k0_pay28 w.k z)))
    (k0_pay41 (k0_pay27 w.q z) (k0_pay28 w.k z) (k0_pay29 w.v z))
    (k0_pay42 (k0_pay27 w.q z) (k0_pay28 w.k z) (k0_pay29 w.v z))
    (k0_pay43 (k0_pay29 w.v z)) (k0_pay44 (k0_pay27 w.q z) (k0_pay28 w.k z)) (k0_pay45 (F := F))

/-- The third partial: the low batch kept. -/
def partC (z : Vec F S256x1024 .bf16) : FVec F S256x1024 .f32 :=
  k0_pay67 w.o (k0_pay51 w.k w.v z (k0_pay48 w.q z)) (k0_pay52 w.k w.v z (k0_pay48 w.q z))
    (k0_pay56 (k0_pay53 w.v z) (k0_pay54 w.k z (k0_pay48 w.q z)) (k0_pay55 w.k z (k0_pay48 w.q z)))
    (k0_pay57 (k0_pay48 w.q z) (k0_pay49 w.k z) (k0_pay50 w.v z))
    (k0_pay58 (k0_pay48 w.q z) (k0_pay49 w.k z) (k0_pay50 w.v z))
    (k0_pay62 (k0_pay59 (k0_pay48 w.q z)) (k0_pay60 (k0_pay49 w.k z)) (k0_pay61 (k0_pay50 w.v z)) (constant S256x256 .f32 0x00000000#32))
    (k0_pay63 (k0_pay48 w.q z) (k0_pay49 w.k z) (k0_pay50 w.v z))
    (k0_pay65 (k0_pay48 w.q z) (k0_pay49 w.k z))
    (k0_pay66 (k0_pay48 w.q z) (k0_pay49 w.k z) (k0_pay50 w.v z))

/-- The fourth: the top half of the high batch kept. `z` is the batch, `y` its top half. -/
def partD (z : Vec F S256x1024 .bf16) (y : Vec F S128x1024 .bf16) : FVec F S128x1024 .f32 :=
  k0_pay83 w.o (k0_pay70 w.k z) (k0_pay71 w.v z) (k0_pay72 w.q y)
    (k0_pay75 (k0_pay73 w.v z) (k0_pay74 w.q w.k z y) (Scalar.ofBits .f32 0x3DB504F3#32))
    (k0_pay76 (k0_pay70 w.k z) (k0_pay71 w.v z) (k0_pay72 w.q y))
    (k0_pay77 (k0_pay70 w.k z) (k0_pay71 w.v z) (k0_pay72 w.q y))
    (k0_pay78 (k0_pay70 w.k z) (k0_pay71 w.v z) (k0_pay72 w.q y))
    (k0_pay79 (k0_pay70 w.k z) (k0_pay71 w.v z) (k0_pay72 w.q y))
    (k0_pay80 (k0_pay71 w.v z)) (k0_pay81 (k0_pay70 w.k z) (k0_pay72 w.q y)) (k0_pay82 (k0_pay70 w.k z) (k0_pay72 w.q y))

/-- The fifth: its bottom half. -/
def partE (z : Vec F S256x1024 .bf16) (y : Vec F S128x1024 .bf16) : FVec F S128x1024 .f32 :=
  k0_pay100 w.o (k0_pay70 w.k z) (k0_pay71 w.v z) (k0_pay86 w.q y)
    (k0_pay87 w.q (k0_pay70 w.k z) (k0_pay71 w.v z) y)
    (k0_pay91 (k0_pay88 (k0_pay71 w.v z)) (k0_pay89 w.q (k0_pay70 w.k z) y) (k0_pay90 (F := F)))
    (k0_pay92 (k0_pay70 w.k z) (k0_pay71 w.v z) (k0_pay86 w.q y))
    (k0_pay93 (k0_pay70 w.k z) (k0_pay71 w.v z) (k0_pay86 w.q y))
    (k0_pay95 (k0_pay70 w.k z) (k0_pay71 w.v z) (k0_pay94 (k0_pay86 w.q y)))
    (k0_pay96 (k0_pay70 w.k z) (k0_pay71 w.v z) (k0_pay86 w.q y))
    (k0_pay97 (k0_pay71 w.v z)) (k0_pay98 (k0_pay70 w.k z) (k0_pay86 w.q y)) (k0_pay99 (k0_pay70 w.k z) (k0_pay86 w.q y))

end Ins

/-! ## What is staged, and what the output's row blocks end at -/

variable (I : Dev nD → Ins F)

def partA (c : Dev nD) : FVec F S256x1024 .f32 := (I c).partA ((I c).rowsAt 256 (rLowGive c))
def partB (c : Dev nD) : FVec F S256x1024 .f32 := (I c).partB ((I c).rowsAt 256 (rHighGive c))
def partC (c : Dev nD) : FVec F S256x1024 .f32 := (I c).partC ((I c).rowsAt 256 (rLowKeep c))
def partD (c : Dev nD) : FVec F S128x1024 .f32 := (I c).partD ((I c).rowsAt 256 (rHighKeep c)) ((I c).rowsAt 128 (rHighKeep c))
def partE (c : Dev nD) : FVec F S128x1024 .f32 := (I c).partE ((I c).rowsAt 256 (rHighKeep c)) ((I c).rowsAt 128 (rHighKeep c + 128))

def sent0 (c : Dev nD) : Vec F S1x256x1024 .bf16 := (I c).sentA ((I c).rowsAt 256 (rLowGive c))
def sent1 (c : Dev nD) : Vec F S1x256x1024 .bf16 := (I c).sentB ((I c).rowsAt 256 (rHighGive c))
/-- The kept low batch with `pa`'s partial added; the halves of the kept high batch with `pb`'s added. -/
def sumC (c : Dev nD) : FVec F S256x1024 .f32 := k0_pay68 (partC I c) (sent0 I (pa c))
def sent2 (c : Dev nD) : Vec F S1x256x1024 .bf16 := k0_pay69 (sumC I c)
def sumD (c : Dev nD) : FVec F S128x1024 .f32 := k0_pay84 (partD I c) (fun x => sent1 I (pb c) (halfIn 0 x))
def sent3 (c : Dev nD) : Vec F S1x128x1024 .bf16 := k0_pay85 (partD I c) (fun x => sent1 I (pb c) (halfIn 0 x))
def sumE (c : Dev nD) : FVec F S128x1024 .f32 := k0_pay101 (partE I c) (fun x => sent1 I (pb c) (halfIn 128 x))
def sent6 (c : Dev nD) : Vec F S1x128x1024 .bf16 := k0_pay103 (k0_pay102 (partE I c) (fun x => sent1 I (pb c) (halfIn 128 x)))
/-- All four partials: of the kept low batch, of the halves of the kept high one. -/
def outC (c : Dev nD) : FVec F S256x1024 .f32 := k0_pay104 (sumC I c) (sent2 I (pb c))
def sent4 (c : Dev nD) : Vec F S1x256x1024 .bf16 := k0_pay105 (sumC I c) (sent2 I (pb c))
def outD (c : Dev nD) : FVec F S128x1024 .f32 := k0_pay106 (sumD I c) (sent3 I (pa c))
def sent5 (c : Dev nD) : Vec F S1x128x1024 .bf16 := k0_pay107 (sumD I c) (sent3 I (pa c))
def outE (c : Dev nD) : FVec F S128x1024 .f32 := k0_pay108 (sumE I c) (sent6 I (pa c))
def sent7 (c : Dev nD) : Vec F S1x128x1024 .bf16 := k0_pay110 (k0_pay109 (sumE I c) (sent6 I (pa c)))
/-- The batches given away, as they come back. -/
def outA (c : Dev nD) : FVec F S256x1024 .f32 := k0_pay111 (sent4 I (pa c))
def outB (c : Dev nD) : FVec F S256x1024 .f32 := k0_pay1 (stack (sent5 I (pb c)) (sent7 I (pb c)))

/-! ## The boxes of the staging and landing buffers -/

/-- Offsets and sizes: boxes 0 to 7 are the transfers', box 8 is what no transfer uses. -/
def boxOff : Fin 9 → Fin 3 → ℕ :=
  ![![0, 0, 0], ![1, 0, 0], ![2, 0, 0], ![3, 0, 0], ![4, 0, 0], ![5, 0, 0], ![3, 128, 0], ![5, 128, 0], ![6, 0, 0]]
def boxSize : Fin 9 → Fin 3 → ℕ :=
  ![S1x256x1024.size, S1x256x1024.size, S1x256x1024.size, S1x128x1024.size, S1x256x1024.size, S1x128x1024.size, S1x128x1024.size, S1x128x1024.size, ![2, 256, 1024]]

theorem boxInb : ∀ t a, boxOff t a + boxSize t a ≤ S8x256x1024.size a := by decide
theorem boxApart : ∀ t t', t ≠ t' → ∃ a, boxOff t a + boxSize t a ≤ boxOff t' a ∨ boxOff t' a + boxSize t' a ≤ boxOff t a := by decide

/-- Where transfer `k` starts and how long it is. -/
abbrev slotOff (k : Fin 8) : Fin 3 → ℕ := boxOff k.castSucc
abbrev slotSize (k : Fin 8) : Fin 3 → ℕ := boxSize k.castSucc
theorem slotInb (k : Fin 8) : ∀ a, slotOff k a + slotSize k a ≤ S8x256x1024.size a := boxInb k.castSucc

/-- What device `c` stages for transfer `k`. -/
def sentAt : (k : Fin 8) → Dev nD → (Shape.Idx ⟨3, slotSize k⟩ → Elt F .bf16)
  | ⟨0, _⟩, c => sent0 I c
  | ⟨1, _⟩, c => sent1 I c
  | ⟨2, _⟩, c => sent2 I c
  | ⟨3, _⟩, c => sent3 I c
  | ⟨4, _⟩, c => sent4 I c
  | ⟨5, _⟩, c => sent5 I c
  | ⟨6, _⟩, c => sent6 I c
  | ⟨7, _⟩, c => sent7 I c

end Cert.HeadShard
-- ==== Proof.Plan.lean ====
/-
# The exchange's plan: semaphores, duties, payloads, levels

Every device has a barrier cell and, for each of its eight transfers, a send cell and a receive cell. All are used for
one round. The barrier hands each partner the landing slots it will write; a receive cell hands over the slot as the
partner staged it; a send cell gives the staging slot back. A receive cell's level says when it may be waited for.
-/
module

public import proofs.«01_k».proof.Proof.Contents

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers and semaphores -/

abbrev xM : Memref sig .tc .vmem S4x256x1024 .f32 := Memref.whole cc0_stg0_0
abbrev qM : Memref sig .tc .vmem S1024x1024 .f32 := Memref.whole cc0_stg1_0
abbrev oM : Memref sig .tc .vmem S1024x1024 .f32 := Memref.whole cc0_stg2_0
abbrev kM : Memref sig .tc .vmem S1024x1024 .f32 := Memref.whole cc0_stg3_0
abbrev vM : Memref sig .tc .vmem S1024x1024 .f32 := Memref.whole cc0_stg4_0
abbrev outM : Memref sig .tc .vmem S1024x1024 .f32 := Memref.whole cc0_stg5_0
abbrev sM : Memref sig .tc .vmem S8x256x1024 .bf16 := Memref.whole cc0_scratch0
abbrev rM : Memref sig .tc .vmem S8x256x1024 .bf16 := Memref.whole cc0_scratch1
abbrev hM : Memref sig .tc .vmem S1024x1024 .bf16 := Memref.whole cc0_scratch2

abbrev barS : Sem sig := (SemArray.scalar (sig.barrier 0 rfl) : Sems sig S_).sem
/-- Transfer `k`'s send and receive semaphores. -/
def sS (k : Fin 8) : DmaSem sig := ⟨6 + k.val, by have := k.isLt; show 6 + k.val < 22; omega⟩
def rS (k : Fin 8) : DmaSem sig := ⟨14 + k.val, by have := k.isLt; show 14 + k.val < 22; omega⟩

abbrev barCell (c : Dev nD) : GSem nD τ sig := ((c : Thread nD τ), .reg barS)
abbrev sCell (k : Fin 8) (c : Dev nD) : GSem nD τ sig := ((c : Thread nD τ), .dma (sS k))
abbrev rCell (k : Fin 8) (c : Dev nD) : GSem nD τ sig := ((c : Thread nD τ), .dma (rS k))

/-- What a semaphore is for. -/
inductive Role where
  | bar
  | snd (k : Fin 8)
  | rcv (k : Fin 8)
  | other
deriving DecidableEq

def roleOf : SemLoc sig → Role
  | .dma q => if 14 ≤ q.val then .rcv (Fin.ofNat 8 (q.val - 14)) else if 6 ≤ q.val then .snd (Fin.ofNat 8 (q.val - 6)) else .other
  | .reg s => if s = barS then .bar else .other

theorem role_bar : roleOf (.reg barS) = .bar := by unfold roleOf; exact if_pos rfl
theorem role_s (k : Fin 8) : roleOf (.dma (sS k)) = .snd k := by revert k; decide
theorem role_r (k : Fin 8) : roleOf (.dma (rS k)) = .rcv k := by revert k; decide

/-! ## Credits -/

abbrev fullSlot (m : Memref sig .tc .vmem S8x256x1024 .bf16) : Memref sig .tc .vmem S256x1024 .bf16 :=
  (m.slice (Rect.unit (s := S8x256x1024) ![0, 0, 0] S1x256x1024.size inb_S8x256x1024_S1x256x1024_0_0_0) (fun _ => rfl)).squeeze S256x1024 squeezes_S1x256x1024_S256x1024
abbrev halfSlot (m : Memref sig .tc .vmem S8x256x1024 .bf16) : Memref sig .tc .vmem S128x1024 .bf16 :=
  (m.slice (Rect.unit (s := S8x256x1024) ![3, 0, 0] S1x128x1024.size inb_S8x256x1024_S1x128x1024_3_0_0) (fun _ => rfl)).squeeze S128x1024 squeezes_S1x128x1024_S128x1024

def fullN : ℕ := (fullSlot rM).view.dmaCredit
def halfN : ℕ := (halfSlot rM).view.dmaCredit
def amt (k : Fin 8) : ℕ := (![fullN, fullN, fullN, halfN, fullN, halfN, halfN, halfN] : Fin 8 → ℕ) k

theorem amt_pos (k : Fin 8) : 0 < amt k := by
  have h₁ : 0 < fullN := View.dmaCredit_pos _ (by decide)
  have h₂ : 0 < halfN := View.dmaCredit_pos _ (by decide)
  fin_cases k <;> assumption

/-! ## The schedule -/

/-- Device `c`'s staging slot, and its landing slot, of transfer `k`. -/
def stageAny (k : Fin 8) (c : Dev nD) : sProp 𝕄 := heldAny (F := F) c sM (slotOff k) (slotSize k) (slotInb k)
def landAny (k : Fin 8) (c : Dev nD) : sProp 𝕄 := heldAny (F := F) c rM (slotOff k) (slotSize k) (slotInb k)

variable (I : Dev nD → Ins F)

/-- The landing slot at what device `d` staged. -/
def landFrom (k : Fin 8) (c d : Dev nD) : sProp 𝕄 := held c rM (slotOff k) (slotSize k) (slotInb k) (sentAt I k d)

/-- What the partner across the low half (`true`), or across the high half, hands device `c`: its landing slots for `c`. -/
def handOver (d : Bool) (c : Dev nD) : sProp 𝕄 :=
  if d then iprop(landAny (F := F) 0 (pa c) ∗ landAny (F := F) 3 (pa c) ∗ landAny (F := F) 4 (pa c) ∗ landAny (F := F) 6 (pa c))
  else iprop(landAny (F := F) 1 (pb c) ∗ landAny (F := F) 2 (pb c) ∗ landAny (F := F) 5 (pb c) ∗ landAny (F := F) 7 (pb c))

def payloadOf (d : Bool) (c : Dev nD) : Role → sProp 𝕄
  | .bar => handOver d c
  | .snd k => stageAny k c
  | .rcv k => landFrom I k c (peer k c)
  | .other => iprop(emp)

def amountOf : Role → ℕ
  | .snd k => amt k
  | .rcv k => amt k
  | _ => 1

def dutiesOf : Role → Finset Bool
  | .bar => Finset.univ
  | .other => ∅
  | _ => {false}

/-- One round, round 0. -/
def plan : Rounds.Schedule (GSem nD τ sig) Bool 𝕄 where
  duties g r := if r = 0 ∧ g.1.2 = .tc then dutiesOf (roleOf g.2) else ∅
  unitless _ := False
  amount g _ _ := amountOf (roleOf g.2)
  payload g _ d := payloadOf I d g.1.1 (roleOf g.2)
  amount_pos g _ _ _ := by
    unfold amountOf
    split
    · exact amt_pos _
    · exact amt_pos _
    · exact Nat.one_pos

instance plan_storable (g : GSem nD τ sig) (r : ℕ) (d : Bool) : BI.Storable (upEmb : UEmb _ 𝕄) ((plan I).payload g r d) := by
  show BI.Storable upEmb (payloadOf I d g.1.1 (roleOf g.2))
  unfold payloadOf handOver stageAny landFrom landAny
  (repeat' split) <;> infer_instance

theorem duties_bar (c : Dev nD) : (plan I).duties (barCell c) 0 = Finset.univ := by
  dsimp only [plan]; rw [if_pos ⟨rfl, rfl⟩, role_bar]; rfl
theorem duties_s (k : Fin 8) (c : Dev nD) : (plan I).duties (sCell k c) 0 = {false} := by
  dsimp only [plan]; rw [if_pos ⟨rfl, rfl⟩, role_s]; rfl
theorem duties_r (k : Fin 8) (c : Dev nD) : (plan I).duties (rCell k c) 0 = {false} := by
  dsimp only [plan]; rw [if_pos ⟨rfl, rfl⟩, role_r]; rfl
theorem duties_later (g : GSem nD τ sig) : ∀ r, 1 ≤ r → (plan I).duties g r = ∅ :=
  fun r hr => if_neg fun h => by omega

theorem amount_bar (c : Dev nD) (d : Bool) : (plan I).amount (barCell c) 0 d = 1 := by dsimp only [plan]; rw [role_bar]; rfl
theorem amount_s (k : Fin 8) (c : Dev nD) (d : Bool) : (plan I).amount (sCell k c) 0 d = amt k := by dsimp only [plan]; rw [role_s]; rfl
theorem amount_r (k : Fin 8) (c : Dev nD) (d : Bool) : (plan I).amount (rCell k c) 0 d = amt k := by dsimp only [plan]; rw [role_r]; rfl

theorem expect_bar (c : Dev nD) : (plan I).expect (barCell c) 0 = 2 := by
  unfold Schedule.expect Schedule.amountOf
  rw [duties_bar, Finset.sum_congr rfl fun d _ => amount_bar I c d, Finset.sum_const, Finset.card_univ, Fintype.card_bool, smul_eq_mul]
theorem expect_s (k : Fin 8) (c : Dev nD) : (plan I).expect (sCell k c) 0 = amt k := by
  unfold Schedule.expect Schedule.amountOf; rw [duties_s, Finset.sum_singleton, amount_s]
theorem expect_r (k : Fin 8) (c : Dev nD) : (plan I).expect (rCell k c) 0 = amt k := by
  unfold Schedule.expect Schedule.amountOf; rw [duties_r, Finset.sum_singleton, amount_r]

theorem payload_bar (c : Dev nD) (d : Bool) : (plan I).payload (barCell c) 0 d = handOver d c := by dsimp only [plan]; rw [role_bar]; rfl
theorem payload_s (k : Fin 8) (c : Dev nD) (d : Bool) : (plan I).payload (sCell k c) 0 d = stageAny k c := by dsimp only [plan]; rw [role_s]; rfl
theorem payload_r (k : Fin 8) (c : Dev nD) (d : Bool) : (plan I).payload (rCell k c) 0 d = landFrom I k c (peer k c) := by
  dsimp only [plan]; rw [role_r]; rfl

theorem rest_bar (c : Dev nD) : bigSep ((plan I).duties (barCell c) 0 \ ∅) (fun d => (plan I).payload (barCell c) 0 d)
    = iprop(handOver (F := F) false c ∗ handOver (F := F) true c) := by
  rw [Finset.sdiff_empty, duties_bar, bigSep_univ_eq_bigSepL [false, true] (by decide) (by decide), bigSepL_cons_cons, bigSepL_singleton,
    payload_bar, payload_bar]
  rfl
theorem rest_s (k : Fin 8) (c : Dev nD) : bigSep ((plan I).duties (sCell k c) 0 \ ∅) (fun d => (plan I).payload (sCell k c) 0 d) = stageAny (F := F) k c := by
  rw [Finset.sdiff_empty, duties_s, bigSep_singleton, payload_s]
theorem rest_r (k : Fin 8) (c : Dev nD) : bigSep ((plan I).duties (rCell k c) 0 \ ∅) (fun d => (plan I).payload (rCell k c) 0 d)
    = landFrom I k c (peer k c) := by
  rw [Finset.sdiff_empty, duties_r, bigSep_singleton, payload_r]

/-! ## What is owed, and the levels -/

/-- The credits a device still owes its partners' receive cells, for the transfers listed in order. -/
def owed (c : Dev nD) : List (Fin 8) → CellTallies nD τ sig Unit
  | [] => 0
  | k :: l => owed c l + tallyAt (rCell k (peer k c)) () (amt k)

/-- The transfers in the order they are started. -/
abbrev sendOrder : List (Fin 8) := [0, 1, 2, 3, 6, 4, 5, 7]

/-- At launch a device owes all its transfers and a unit to each partner's barrier cell. -/
def owed₁ (c : Dev nD) : CellTallies nD τ sig Unit := owed c sendOrder + tallyAt (barCell (pb c)) () 1
def owed₀ (c : Dev nD) : CellTallies nD τ sig Unit := owed₁ c + tallyAt (barCell (pa c)) () 1

def L (g : GSem nD τ sig) : Finset Unit := if g.1.2 = .tc then {()} else ∅
def levOf : Role → ℕ
  | .bar => 1
  | .rcv k => (![2, 3, 4, 5, 7, 8, 6, 9] : Fin 8 → ℕ) k
  | _ => 0
def lv (g : GSem nD τ sig) (_ : Unit) : ℕ := levOf (roleOf g.2)

theorem lev_rcv_pos (k : Fin 8) : 0 < levOf (.rcv k) := by revert k; decide

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {l : List (Fin 8)} {g : GSem nD τ sig} {u : Unit} (h : 0 < owed c l g u) : ∃ k ∈ l, g = rCell k (peer k c) := by
  induction l with
  | nil => exact absurd h (Nat.lt_irrefl 0)
  | cons k l ih =>
    unfold owed at h
    rw [Pi.add_apply, Finsupp.add_apply, tallyAt_apply] at h
    by_cases hg : g = rCell k (peer k c)
    · exact ⟨k, List.mem_cons_self, hg⟩
    · rw [if_neg (fun h' => hg h'.1), Nat.add_zero] at h
      obtain ⟨j, hj, e⟩ := ih h
      exact ⟨j, List.mem_cons_of_mem _ hj, e⟩

theorem owed₀_pos {c : Dev nD} {g : GSem nD τ sig} {u : Unit} (h : 0 < owed₀ c g u) :
    (∃ k, g = rCell k (peer k c)) ∨ g = barCell (pb c) ∨ g = barCell (pa c) := by
  unfold owed₀ owed₁ at h
  rw [Pi.add_apply, Finsupp.add_apply, Pi.add_apply, Finsupp.add_apply, tallyAt_apply, tallyAt_apply] at h
  by_cases h1 : g = barCell (pb c)
  · exact .inr (.inl h1)
  by_cases h2 : g = barCell (pa c)
  · exact .inr (.inr h2)
  rw [if_neg (fun h' => h1 h'.1), if_neg (fun h' => h2 h'.1)] at h
  simp only [Nat.add_zero] at h
  obtain ⟨k, _, e⟩ := owed_pos h
  exact .inl ⟨k, e⟩

/-- A semaphore may be waited on while every transfer still owed lies above it. -/
theorem mayWait_below (c : Dev nD) (sm : SemLoc sig) (l : List (Fin 8)) (n : ℕ) (hn : levOf (roleOf sm) = n) (hl : ∀ k ∈ l, n < levOf (.rcv k)) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨k, _, rfl⟩ := owed_pos hg; exact Finset.mem_singleton_self _)
    (fun p hp => by rw [Finset.mem_singleton.mp hp]; exact le_of_eq hn)
    (fun g u hg => by
      obtain ⟨k, hk, rfl⟩ := owed_pos hg
      show n < levOf (roleOf _)
      rw [role_r]; exact hl k hk)

/-- A staging semaphore may be waited on at launch's debt and at none. -/
theorem mayWait_stage (c : Dev nD) (q : DmaSem sig) (hq : levOf (roleOf (.dma q)) = 0) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨k, rfl⟩ | rfl | rfl <;> exact Finset.mem_singleton_self _)
      (fun p hp => by rw [Finset.mem_singleton.mp hp]; exact le_of_eq hq)
      (fun g u hg => by
        rcases owed₀_pos hg with ⟨k, rfl⟩ | rfl | rfl
        · show 0 < levOf (roleOf _); rw [role_r]; exact lev_rcv_pos k
        · show 0 < levOf (roleOf _); rw [role_bar]; decide
        · show 0 < levOf (roleOf _); rw [role_bar]; decide)
  · rw [MayWait_zero]; iintro -; iempintro

end Cert.HeadShard
-- ==== Proof.Steps.lean ====
/-
# The exchange's steps

One lemma per kind of step, for every transfer at once: start transfer `k`, wait for its staging slot to come back, wait
for the partner's message, signal a partner's barrier, wait for both partners. Each wait also takes its cell out of use.
-/
module

public import proofs.«01_k».proof.Proof.Plan

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- One device's cells: the barrier's, the send cells, the receive cells. -/
abbrev CI : Type := Unit ⊕ (Fin 8 ⊕ Fin 8)

def csem : CI → SemLoc sig
  | .inl _ => .reg barS
  | .inr (.inl k) => .dma (sS k)
  | .inr (.inr k) => .dma (rS k)

abbrev kcell (p : Dev nD × CI) : GSem nD τ sig := ((p.1 : Thread nD τ), csem p.2)

variable (I : Dev nD → Ins F) (K : Dev nD × CI → ℕ)

/-- Every cell keeps to the plan, has begun its round, and has its level. -/
def records : sProp 𝕄 :=
  iprop((bigSep Finset.univ fun p : Dev nD × CI => Rounds.cellInv ER (plan I) (K p) (kcell p))
    ∗ (bigSep Finset.univ fun p : Dev nD × CI => reached ER (kcell p) 0) ∗ levAts L lv)

instance records_persistent : BI.Persistent (records I K) := by unfold records; infer_instance

theorem inv_at (p : Dev nD × CI) : records I K ⊢ Rounds.cellInv ER (plan I) (K p) (kcell p) := by
  have h := bigSep_one (F := F) (P := fun p : Dev nD × CI => Rounds.cellInv ER (plan I) (K p) (kcell p)) (Finset.mem_univ p)
  unfold records; iintro ⟨#H, -, -⟩; iapply h; iexact H

theorem reached_at (p : Dev nD × CI) : records I K ⊢ reached ER (kcell p) 0 := by
  have h := bigSep_one (F := F) (P := fun p : Dev nD × CI => (reached ER (kcell p) 0 : sProp 𝕄)) (Finset.mem_univ p)
  unfold records; iintro ⟨-, #H, -⟩; iapply h; iexact H

theorem levels : records I K ⊢ levAts L lv := by unfold records; iintro ⟨-, -, #H⟩; iexact H

/-- What device `c` still owes, its waits so far whatever they are. -/
def owing (c : Dev nD) (O : CellTallies nD τ sig Unit) : sProp 𝕄 := iprop(∃ W, owes (c : Thread nD τ) O W)

/-! ## Transfers -/

section Send

variable {α : Type} {t : Shape}

/-- Transfer `k` is started: the staging slot goes to the send cell, the partner's landing slot, as it will read, to the
    partner's receive cell; the credit of the former is the device's. -/
theorem send_slot {Q : α → sProp 𝕄} (c : Dev nD) (k : Fin 8) (l : List (Fin 8)) {n : Dev nD} (hn : n = peer k c) {off size : Fin 3 → ℕ}
    (hoff : off = slotOff k) (hsize : size = slotSize k) {inb inb' : ∀ a, off a + size a ≤ S8x256x1024.size a}
    {hsq hsq' : (⟨3, size⟩ : Shape).Squeezes t} {hu hu'} {q q' : DmaSem sig} (hq : q = sS k) (hq' : q' = rS k)
    {hsc : (((rM.slice (Rect.unit (s := S8x256x1024) off size inb') hu').squeeze t hsq').view.ref).isScScratch = false}
    {hsrc hdst hsem} {kk : PUnit → Prog (TpuEff nD τ sig (Elt F) Λ₀ .tc) α}
    (hN : ((rM.slice (Rect.unit (s := S8x256x1024) off size inb') hu').squeeze t hsq').view.dmaCredit = amt k) :
    iprop(records I K ∗ held c sM (slotOff k) (slotSize k) (slotInb k) (sentAt I k c) ∗ landAny (F := F) k (peer k c) ∗ owing c (owed c (k :: l))
        ∗ dutyTok ER (sCell k c) 0 false ∗ dutyTok ER (rCell k (peer k c)) 0 false)
      ⊢ iprop(((cred (tallyAt (sCell k c) () (amt k)) ∗ owing c (owed c l)) -∗ wpd c (kk ⟨⟩) Q)
        -∗ wpd c (.op (.enqueueDma ((sM.slice (Rect.unit (s := S8x256x1024) off size inb) hu).squeeze t hsq)
            (.remote (Dev.tc n) ((rM.slice (Rect.unit (s := S8x256x1024) off size inb') hu').squeeze t hsq') (.dma q) hsc) (.dma q') hsrc hdst hsem) kk) Q) := by
  subst hn hoff hsize hq hq'
  unfold landAny heldAny held owing
  iintro ⟨#Hr, ⟨%f, %hf, Hs⟩, ⟨%X, %g, %hg, Hd⟩, ⟨%W, HO⟩, Ht₁, Ht₂⟩ Hk
  iapply (Rounds.wp_send_pointsTo 𝒱₀ ER (plan I) (c : Thread nD τ) none (c' := (peer k c : Thread nD τ))
      (src := (sM.slice (Rect.unit (s := S8x256x1024) (slotOff k) (slotSize k) inb) hu).squeeze t hsq)
      (dst := (rM.slice (Rect.unit (s := S8x256x1024) (slotOff k) (slotSize k) inb') hu').squeeze t hsq')
      (sS := .dma (sS k)) (sem := .dma (rS k)) (hsc := hsc) (hsrc := hsrc) (hdst := hdst) (hsem := hsem) (k := kk) (q := fullShare) (fs := f) (fd := g) (κ₁ := K (c, .inr (.inl k))) (κ₂ := K (peer k c, .inr (.inr k)))
      (r₁ := 0) (r₂ := 0) (d₁ := false) (d₂ := false)
      (by rw [duties_s]; exact Finset.mem_singleton_self _) (by rw [duties_r]; exact Finset.mem_singleton_self _) () () (amt k) hN
      (amount_s I k c false) (amount_r I k (peer k c) false) (owed c l) rfl (W := W)
      (by
        rw [payload_s]; unfold stageAny heldAny held
        iintro H
        iexists _; iexists f
        isplitr; · ipureintro; rfl
        rw [show ((sM.slice (Rect.unit (s := S8x256x1024) (slotOff k) (slotSize k) inb) hu).squeeze t hsq).view.set = (sM.access (Rect.unit (s := S8x256x1024) (slotOff k) (slotSize k) inb)).set from View.set_reshape _ _]
        iexact H)
      (by
        rw [payload_r, peer_peer]; unfold landFrom held
        iintro H
        iexists _
        isplitr
        rotate_left
        · rw [show ((rM.slice (Rect.unit (s := S8x256x1024) (slotOff k) (slotSize k) inb') hu').squeeze t hsq').view.set = (rM.access (Rect.unit (s := S8x256x1024) (slotOff k) (slotSize k) inb')).set from View.set_reshape _ _]
          iexact H
        · ipureintro
          exact (read_transfer sM rM inb inb' hsq.numel_eq f g).trans hf))
    $$ [Hs Hd HO Ht₁ Ht₂]
  · isplitr; · iapply (inv_at I K (c, .inr (.inl k))); iexact Hr
    isplitr; · iapply (inv_at I K (peer k c, .inr (.inr k))); iexact Hr
    isplitl [Hs]
    · rw [show ((sM.slice (Rect.unit (s := S8x256x1024) (slotOff k) (slotSize k) inb) hu).squeeze t hsq).view.set = (sM.access (Rect.unit (s := S8x256x1024) (slotOff k) (slotSize k) inb)).set from View.set_reshape _ _]
      iexact Hs
    isplitl [Hd]
    · rw [show ((rM.slice (Rect.unit (s := S8x256x1024) (slotOff k) (slotSize k) inb') hu').squeeze t hsq').view.set = (rM.access (Rect.unit (s := S8x256x1024) (slotOff k) (slotSize k) inb')).set from View.set_reshape _ _]
      iexact Hd
    isplitl [HO]; · iexact HO
    isplitl [Ht₁]; · iexact Ht₁
    isplitr; · iapply (reached_at I K (c, .inr (.inl k))); iexact Hr
    isplitl [Ht₂]; · iexact Ht₂
    iapply (reached_at I K (peer k c, .inr (.inr k))); iexact Hr
  iintro ⟨Hc, HO⟩
  iapply Hk
  isplitl [Hc]; · iexact Hc
  iexists W; iexact HO

end Send

section Wait

variable {α : Type} {sp sp' : Space} {s s' : Shape} {e e' : EltTy}

/-- Waiting for the staging slot of transfer `k`: it comes back, and the send cell is out of use. -/
theorem wait_staged {Q : α → sProp 𝕄} (c : Dev nD) (k : Fin 8) (l : List (Fin 8)) (hl : ∀ k ∈ l, 0 < levOf (.rcv k)) {q : DmaSem sig} (hq : q = sS k)
    {src : Memref sig .tc sp' s' e'} {dst : Memref sig .tc sp s e} {hsrc hdst} {kk : PUnit → Prog (TpuEff nD τ sig (Elt F) Λ₀ .tc) α}
    (hN : dst.view.dmaCredit = amt k) :
    iprop(records I K ∗ cred (tallyAt (sCell k c) () (amt k)) ∗ owing c (owed c l) ∗ atPos ER (sCell k c) 0 ∅ 0)
      ⊢ iprop(((owing c (owed c l) ∗ stageAny (F := F) k c ∗ semVal (sCell k c) 0) -∗ wpd c (kk ⟨⟩) Q)
        -∗ wpd c (.op (.waitDma2 q src dst hsrc hdst) kk) Q) := by
  subst hq
  unfold owing
  iintro ⟨#Hr, Hc, ⟨%W, HO⟩, Hat⟩ Hk
  iapply (Rounds.wp_wait_rest_token 𝒱₀ ER (plan I) (c : Thread nD τ) none (κ := K (c, .inr (.inl k)))
      (wpE_waitDma2_eq 𝒱₀ (c : Thread nD τ) none Set.univ) (Set.mem_univ _) () (O := owed c l) (W := W) (R := 0) (m := 0) (T := ∅)
      (by rw [Nat.zero_add, hN]; exact (expect_s I k c).symm)) $$ [Hc HO Hat]
  · isplitr; · iapply (inv_at I K (c, .inr (.inl k))); iexact Hr
    rw [hN]
    isplitl [Hc]; · iexact Hc
    isplitl [HO]; · iexact HO
    isplitr
    · iapply (mayWait_below c (.dma (sS k)) l 0 (by rw [role_s]; rfl) hl)
      iapply (levels I K); iexact Hr
    iexact Hat
  rw [rest_s I k c]
  iintro ⟨HO, Hat, -, Hp⟩
  imod (Rounds.cell_close ER (plan I) (Set.mem_univ (K (c, .inr (.inl k)))) (fun h => h) (R := 0 + 1) (duties_later I _)) $$ [Hat] with Hz
  · isplitr; · iapply (inv_at I K (c, .inr (.inl k))); iexact Hr
    iexact Hat
  iapply Hk
  isplitl [HO]; · iexists _; iexact HO
  isplitl [Hp]; · iexact Hp
  iexact Hz

/-- Waiting for the partner's message `k`: the landing slot comes as the partner staged it, and the receive cell is out of use. -/
theorem wait_landed {Q : α → sProp 𝕄} (c : Dev nD) (k : Fin 8) (l : List (Fin 8)) (hl : ∀ j ∈ l, levOf (.rcv k) < levOf (.rcv j)) {q : DmaSem sig} (hq : q = rS k)
    {src : Memref sig .tc sp' s' e'} {dst : Memref sig .tc sp s e} {hsrc hdst} {kk : PUnit → Prog (TpuEff nD τ sig (Elt F) Λ₀ .tc) α}
    (hN : dst.view.dmaCredit = amt k) :
    iprop(records I K ∗ cred (tallyAt (rCell k c) () (amt k)) ∗ owing c (owed c l) ∗ atPos ER (rCell k c) 0 ∅ 0)
      ⊢ iprop(((owing c (owed c l) ∗ landFrom I k c (peer k c) ∗ semVal (rCell k c) 0) -∗ wpd c (kk ⟨⟩) Q)
        -∗ wpd c (.op (.waitDma2 q src dst hsrc hdst) kk) Q) := by
  subst hq
  unfold owing
  iintro ⟨#Hr, Hc, ⟨%W, HO⟩, Hat⟩ Hk
  iapply (Rounds.wp_wait_rest_token 𝒱₀ ER (plan I) (c : Thread nD τ) none (κ := K (c, .inr (.inr k)))
      (wpE_waitDma2_eq 𝒱₀ (c : Thread nD τ) none Set.univ) (Set.mem_univ _) () (O := owed c l) (W := W) (R := 0) (m := 0) (T := ∅)
      (by rw [Nat.zero_add, hN]; exact (expect_r I k c).symm)) $$ [Hc HO Hat]
  · isplitr; · iapply (inv_at I K (c, .inr (.inr k))); iexact Hr
    rw [hN]
    isplitl [Hc]; · iexact Hc
    isplitl [HO]; · iexact HO
    isplitr
    · iapply (mayWait_below c (.dma (rS k)) l _ (by rw [role_r]) hl)
      iapply (levels I K); iexact Hr
    iexact Hat
  rw [rest_r I k c]
  iintro ⟨HO, Hat, -, Hp⟩
  imod (Rounds.cell_close ER (plan I) (Set.mem_univ (K (c, .inr (.inr k)))) (fun h => h) (R := 0 + 1) (duties_later I _)) $$ [Hat] with Hz
  · isplitr; · iapply (inv_at I K (c, .inr (.inr k))); iexact Hr
    iexact Hat
  iapply Hk
  isplitl [HO]; · iexists _; iexact HO
  isplitl [Hp]; · iexact Hp
  iexact Hz

/-- A unit to the barrier of the device `n`, with the landing slots it may write. -/
theorem signal_bar {Q : α → sProp 𝕄} (c n : Dev nD) (d : Bool) {n' : Dev nD} (hn : n' = n) (O : CellTallies nD τ sig Unit) {am : ℕ} (ham : am = 1)
    {kk : PUnit → Prog (TpuEff nD τ sig (Elt F) Λ₀ .tc) α} :
    iprop(records I K ∗ handOver (F := F) d n ∗ owing c (O + tallyAt (barCell n) () 1) ∗ dutyTok ER (barCell n) 0 d)
      ⊢ iprop((owing c O -∗ wpd c (kk ⟨⟩) Q) -∗ wpd c (.op (.semSignal (Dev.tc n') barS am) kk) Q) := by
  subst hn ham
  unfold owing
  iintro ⟨#Hr, Hp, ⟨%W, HO⟩, Ht⟩ Hk
  iapply (Rounds.wp_signal 𝒱₀ ER (plan I) (c : Thread nD τ) none (dst := (n' : Thread nD τ)) (κ := K (n', .inl ()))
      (d := d) (by rw [duties_bar]; exact Finset.mem_univ _) (amount_bar I n' d) () O rfl) $$ [Hp HO Ht]
  · isplitr; · iapply (inv_at I K (n', .inl ())); iexact Hr
    isplitl [HO]; · iexact HO
    isplitl [Ht]; · iexact Ht
    isplitl [Hp]; · rw [payload_bar]; iexact Hp
    iapply (reached_at I K (n', .inl ())); iexact Hr
  iintro HO
  iapply Hk
  iexists W; iexact HO

/-- Waiting for both partners' units: their landing slots come with them. -/
theorem wait_bar {Q : α → sProp 𝕄} (c : Dev nD) {am : ℕ} (ham : am = 2) {kk : PUnit → Prog (TpuEff nD τ sig (Elt F) Λ₀ .tc) α} :
    iprop(records I K ∗ cred (tallyAt (barCell c) () 2) ∗ owing c (owed c sendOrder) ∗ atPos ER (barCell c) 0 ∅ 0)
      ⊢ iprop(((owing c (owed c sendOrder) ∗ handOver (F := F) false c ∗ handOver (F := F) true c ∗ semVal (barCell c) 0) -∗ wpd c (kk ⟨⟩) Q)
        -∗ wpd c (.op (.semWait barS am) kk) Q) := by
  subst ham
  unfold owing
  iintro ⟨#Hr, Hc, ⟨%W, HO⟩, Hat⟩ Hk
  iapply (Rounds.wp_wait_rest_token 𝒱₀ ER (plan I) (c : Thread nD τ) none (κ := K (c, .inl ()))
      (wpE_semWait_eq 𝒱₀ (c : Thread nD τ) none Set.univ) (Set.mem_univ _) () (O := owed c sendOrder) (W := W) (R := 0) (m := 0) (T := ∅)
      (by rw [Nat.zero_add]; exact (expect_bar I c).symm)) $$ [Hc HO Hat]
  · isplitr; · iapply (inv_at I K (c, .inl ())); iexact Hr
    isplitl [Hc]; · iexact Hc
    isplitl [HO]; · iexact HO
    isplitr
    · iapply (mayWait_below c (.reg barS) sendOrder 1 (by rw [role_bar]; rfl) (by decide))
      iapply (levels I K); iexact Hr
    iexact Hat
  rw [rest_bar I c]
  iintro ⟨HO, Hat, -, Hp, Hp'⟩
  imod (Rounds.cell_close ER (plan I) (Set.mem_univ (K (c, .inl ()))) (fun h => h) (R := 0 + 1) (duties_later I _)) $$ [Hat] with Hz
  · isplitr; · iapply (inv_at I K (c, .inl ())); iexact Hr
    iexact Hat
  iapply Hk
  isplitl [HO]; · iexists _; iexact HO
  isplitl [Hp]; · iexact Hp
  isplitl [Hp']; · iexact Hp'
  iexact Hz

end Wait

end Cert.HeadShard
-- ==== Proof.Hold.lean ====
/-
# What a device holds along the run

The state of one transfer on one device, from before it is staged to after its message has come; the row blocks of the
output; the activations in row order; and the steps of the last file said in these words.
-/
module

public import proofs.«01_k».proof.Proof.Steps

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Credits by shape -/

abbrev credS (t : Shape) : ℕ := sig.dmaCredit .tc (Kind.tc.table .vmem) cc0_scratch0.idx t .bf16
abbrev credR (t : Shape) : ℕ := sig.dmaCredit .tc (Kind.tc.table .vmem) cc0_scratch1.idx t .bf16
theorem credR_full : credR S256x1024 = fullN := by unfold fullN; rfl
theorem credR_half : credR S128x1024 = halfN := by unfold halfN; rfl
theorem credS_full : credS S256x1024 = fullN := by unfold fullN; rfl
theorem credS_half : credS S128x1024 = halfN := by unfold halfN; rfl

/-! ## A transfer's states -/

/-- The two rights a transfer is started with, and the place in its send cell's round. -/
def rights (k : Fin 8) (c : Dev nD) : sProp 𝕄 :=
  iprop(dutyTok ER (sCell k c) 0 false ∗ dutyTok ER (rCell k (peer k c)) 0 false ∗ atPos ER (sCell k c) 0 ∅ 0)
/-- Not staged yet. -/
def toSend (k : Fin 8) (c : Dev nD) : sProp 𝕄 := iprop(stageAny (F := F) k c ∗ rights (F := F) k c)
variable (I : Dev nD → Ins F) in
/-- Staged, not started. -/
def ready (k : Fin 8) (c : Dev nD) : sProp 𝕄 :=
  iprop(held c sM (slotOff k) (slotSize k) (slotInb k) (sentAt I k c) ∗ rights (F := F) k c)
/-- Started. -/
def inFlight (k : Fin 8) (c : Dev nD) : sProp 𝕄 := iprop(cred (tallyAt (sCell k c) () (amt k)) ∗ atPos ER (sCell k c) 0 ∅ 0)
/-- The staging slot is back. -/
def gone (k : Fin 8) (c : Dev nD) : sProp 𝕄 := iprop(stageAny (F := F) k c ∗ semVal (sCell k c) 0)
/-- The partner's message has not come yet. -/
def toCome (k : Fin 8) (c : Dev nD) : sProp 𝕄 := iprop(cred (tallyAt (rCell k c) () (amt k)) ∗ atPos ER (rCell k c) 0 ∅ 0)

variable (I : Dev nD → Ins F) (K : Dev nD × CI → ℕ)

variable {α : Type} {sp sp' : Space} {s s' : Shape} {e e' : EltTy}

theorem stage_load {Q : α → sProp 𝕄} (k : Fin 8) (c : Dev nD) {off size : Fin 3 → ℕ} {inb : ∀ a, off a + size a ≤ S8x256x1024.size a}
    (h : toSend (F := F) k c = iprop(heldAny (F := F) c sM off size inb ∗ rights (F := F) k c))
    {hl : sM.view.LoadsAt (Rect.unit (s := S8x256x1024) off size inb).toLoadRect} {kk : (Shape.Idx ⟨3, size⟩ → Elt F .bf16) → Prog (TpuEff nD τ sig (Elt F) Λ₀ .tc) α} :
    toSend (F := F) k c ⊢ iprop((∀ X, toSend (F := F) k c -∗ wpd c (kk X) Q)
      -∗ wpd c (.op (.load sM (Rect.unit (s := S8x256x1024) off size inb).toLoadRect hl) kk) Q) := by
  rw [h]
  unfold heldAny
  iintro ⟨⟨%X, H⟩, Hr⟩ Hk
  iapply (held_load c sM (off := off) rfl) $$ [H]
  · iexact H
  iintro H
  iapply Hk
  isplitl [H]
  · iexists X; iexact H
  iexact Hr

theorem stage_store {Q : α → sProp 𝕄} (k : Fin 8) (c : Dev nD) {off size : Fin 3 → ℕ} {inb : ∀ a, off a + size a ≤ S8x256x1024.size a}
    {w : Shape.Idx ⟨3, size⟩ → Elt F .bf16} (h : toSend (F := F) k c = iprop(heldAny (F := F) c sM off size inb ∗ rights (F := F) k c))
    (h' : ready I k c = iprop(held c sM off size inb w ∗ rights (F := F) k c))
    {hx : (sM.access (Rect.unit (s := S8x256x1024) off size inb)).Stores Finset.univ}
    {hm : (Finset.univ : Finset (Rect.unit (s := S8x256x1024) off size inb).shape.Idx) = Finset.univ ∨ ∀ a, (Rect.unit (s := S8x256x1024) off size inb).stride a = 1}
    {kk : PUnit → Prog (TpuEff nD τ sig (Elt F) Λ₀ .tc) α} :
    toSend (F := F) k c ⊢ iprop((ready I k c -∗ wpd c (kk ⟨⟩) Q)
      -∗ wpd c (.op (.store sM (Rect.unit (s := S8x256x1024) off size inb) w Finset.univ hx hm) kk) Q) := by
  rw [h, h']
  unfold heldAny
  iintro ⟨⟨%X, H⟩, Hr⟩ Hk
  iapply (held_store c sM (off := off) rfl) $$ [H]
  · iexact H
  iintro H
  iapply Hk
  isplitl [H]; · iexact H
  iexact Hr

theorem start {Q : α → sProp 𝕄} (c : Dev nD) (k : Fin 8) (l : List (Fin 8)) {t : Shape} {n : Dev nD} (hn : n = peer k c) {off size : Fin 3 → ℕ}
    (hoff : off = slotOff k) (hsize : size = slotSize k) {inb inb' : ∀ a, off a + size a ≤ S8x256x1024.size a}
    {hsq hsq' : (⟨3, size⟩ : Shape).Squeezes t} {hu hu'} {q q' : DmaSem sig} (hq : q = sS k) (hq' : q' = rS k)
    {hsc : (((rM.slice (Rect.unit (s := S8x256x1024) off size inb') hu').squeeze t hsq').view.ref).isScScratch = false}
    {hsrc hdst hsem} {kk : PUnit → Prog (TpuEff nD τ sig (Elt F) Λ₀ .tc) α}
    (hN : credR t = amt k) :
    iprop(records I K ∗ ready I k c ∗ landAny (F := F) k (peer k c) ∗ owing c (owed c (k :: l)))
      ⊢ iprop(((inFlight (F := F) k c ∗ owing c (owed c l)) -∗ wpd c (kk ⟨⟩) Q)
        -∗ wpd c (.op (.enqueueDma ((sM.slice (Rect.unit (s := S8x256x1024) off size inb) hu).squeeze t hsq)
            (.remote (Dev.tc n) ((rM.slice (Rect.unit (s := S8x256x1024) off size inb') hu').squeeze t hsq') (.dma q) hsc) (.dma q') hsrc hdst hsem) kk) Q) := by
  unfold ready rights inFlight
  iintro ⟨#Hr, ⟨Hs, Ht₁, Ht₂, Hat⟩, Hd, HO⟩ Hk
  iapply (send_slot I K c k l hn hoff hsize hq hq' hN) $$ [Hs Hd HO Ht₁ Ht₂]
  · isplitr; · iexact Hr
    isplitl [Hs]; · iexact Hs
    isplitl [Hd]; · iexact Hd
    isplitl [HO]; · iexact HO
    isplitl [Ht₁]; · iexact Ht₁
    iexact Ht₂
  iintro ⟨Hc, HO⟩
  iapply Hk
  isplitl [Hc Hat]
  · isplitl [Hc]; · iexact Hc
    iexact Hat
  iexact HO

theorem back {Q : α → sProp 𝕄} (c : Dev nD) (k : Fin 8) (l : List (Fin 8)) (hl : ∀ k ∈ l, 0 < levOf (.rcv k)) {q : DmaSem sig} (hq : q = sS k)
    {src : Memref sig .tc sp' s' e'} {t : Shape} {off size : Fin 3 → ℕ} {inb : ∀ a, off a + size a ≤ S8x256x1024.size a} {hsq : (⟨3, size⟩ : Shape).Squeezes t} {hu} {hsrc hdst} {kk : PUnit → Prog (TpuEff nD τ sig (Elt F) Λ₀ .tc) α}
    (hN : credS t = amt k) :
    iprop(records I K ∗ inFlight (F := F) k c ∗ owing c (owed c l))
      ⊢ iprop(((gone (F := F) k c ∗ owing c (owed c l)) -∗ wpd c (kk ⟨⟩) Q) -∗ wpd c (.op (.waitDma2 q src ((sM.slice (Rect.unit (s := S8x256x1024) off size inb) hu).squeeze t hsq) hsrc hdst) kk) Q) := by
  unfold inFlight gone
  iintro ⟨#Hr, ⟨Hc, Hat⟩, HO⟩ Hk
  iapply (wait_staged I K c k l hl hq hN) $$ [Hc HO Hat]
  · isplitr; · iexact Hr
    isplitl [Hc]; · iexact Hc
    isplitl [HO]; · iexact HO
    iexact Hat
  iintro ⟨HO, Hp, Hz⟩
  iapply Hk
  isplitl [Hp Hz]
  · isplitl [Hp]; · iexact Hp
    iexact Hz
  iexact HO

/-- The message's landing slot, in full, and its cell out of use. -/
def came (k : Fin 8) (c : Dev nD) : sProp 𝕄 := iprop(landFrom I k c (peer k c) ∗ semVal (rCell k c) 0)

theorem come {Q : α → sProp 𝕄} (c : Dev nD) (k : Fin 8) (l : List (Fin 8)) (hl : ∀ j ∈ l, levOf (.rcv k) < levOf (.rcv j)) {q : DmaSem sig} (hq : q = rS k)
    {src : Memref sig .tc sp' s' e'} {t : Shape} {off size : Fin 3 → ℕ} {inb : ∀ a, off a + size a ≤ S8x256x1024.size a} {hsq : (⟨3, size⟩ : Shape).Squeezes t} {hu} {hsrc hdst} {kk : PUnit → Prog (TpuEff nD τ sig (Elt F) Λ₀ .tc) α}
    (hN : credR t = amt k) :
    iprop(records I K ∗ toCome (F := F) k c ∗ owing c (owed c l))
      ⊢ iprop(((came I k c ∗ owing c (owed c l)) -∗ wpd c (kk ⟨⟩) Q) -∗ wpd c (.op (.waitDma2 q src ((rM.slice (Rect.unit (s := S8x256x1024) off size inb) hu).squeeze t hsq) hsrc hdst) kk) Q) := by
  unfold toCome came
  iintro ⟨#Hr, ⟨Hc, Hat⟩, HO⟩ Hk
  iapply (wait_landed I K c k l hl hq hN) $$ [Hc HO Hat]
  · isplitr; · iexact Hr
    isplitl [Hc]; · iexact Hc
    isplitl [HO]; · iexact HO
    iexact Hat
  iintro ⟨HO, Hp, Hz⟩
  iapply Hk
  isplitl [Hp Hz]
  · isplitl [Hp]; · iexact Hp
    iexact Hz
  iexact HO

/-- Reading the landed message. -/
theorem land_load {Q : α → sProp 𝕄} (k : Fin 8) (c : Dev nD) {off size : Fin 3 → ℕ} {inb : ∀ a, off a + size a ≤ S8x256x1024.size a}
    {X : Shape.Idx ⟨3, size⟩ → Elt F .bf16} (h : came I k c = iprop(held c rM off size inb X ∗ semVal (rCell k c) 0))
    {hl : rM.view.LoadsAt (Rect.unit (s := S8x256x1024) off size inb).toLoadRect} {kk : (Shape.Idx ⟨3, size⟩ → Elt F .bf16) → Prog (TpuEff nD τ sig (Elt F) Λ₀ .tc) α} :
    came I k c ⊢ iprop((came I k c -∗ wpd c (kk X) Q) -∗ wpd c (.op (.load rM (Rect.unit (s := S8x256x1024) off size inb).toLoadRect hl) kk) Q) := by
  rw [h]
  iintro ⟨H, Hz⟩ Hk
  iapply (held_load c rM (off := off) rfl) $$ [H]
  · iexact H
  iintro H
  iapply Hk
  isplitl [H]; · iexact H
  iexact Hz

theorem wp_done {Q : α → sProp 𝕄} (c : Dev nD) {a : α} : Q a ⊢ wpd (F := F) c (.ret a) Q := by
  unfold wpd; rw [wp_ret]; iintro H; imodintro; iexact H

/-- Reading half of message 1, from row `o` of its slot. -/
theorem half_load {Q : α → sProp 𝕄} (c : Dev nD) (o : ℕ) (ho : o + 128 ≤ 256) {inb : ∀ a, (![1, o, 0] : Fin 3 → ℕ) a + S1x128x1024.size a ≤ S8x256x1024.size a}
    {hl : rM.view.LoadsAt (Rect.unit (s := S8x256x1024) ![1, o, 0] S1x128x1024.size inb).toLoadRect} {kk : (S1x128x1024.Idx → Elt F .bf16) → Prog (TpuEff nD τ sig (Elt F) Λ₀ .tc) α} :
    came I 1 c ⊢ iprop((came I 1 c -∗ wpd c (kk (fun x => sent1 I (pb c) (halfIn o x))) Q)
      -∗ wpd c (.op (.load rM (Rect.unit (s := S8x256x1024) ![1, o, 0] S1x128x1024.size inb).toLoadRect hl) kk) Q) := by
  unfold came landFrom
  iintro ⟨H, Hz⟩ Hk
  iapply (held_load_inside c rM (off' := slotOff 1) (size' := slotSize 1) (halfIn o) (fun x a => by
    have h := (x 1).isLt
    have h1 : (x 1).val < 128 := h
    match a with
    | ⟨0, _⟩ => show 1 + (x 0).val = 1 + (x 0).val; rfl
    | ⟨1, _⟩ => show o + (x 1).val = 0 + (o + (x 1).val) % 256; rw [Nat.mod_eq_of_lt (by omega)]; omega
    | ⟨2, _⟩ => show 0 + (x 2).val = 0 + (x 2).val; rfl)) $$ [H]
  · iexact H
  iintro H
  iapply Hk
  isplitl [H]; · iexact H
  iexact Hz

/-! ## Row blocks -/

theorem lowGive_le (c : Dev nD) : rLowGive c + 256 ≤ 1024 := by revert c; decide
theorem highGive_le (c : Dev nD) : rHighGive c + 256 ≤ 1024 := by revert c; decide
theorem lowKeep_le (c : Dev nD) : rLowKeep c + 256 ≤ 1024 := by revert c; decide
theorem highKeep_le (c : Dev nD) : rHighKeep c + 256 ≤ 1024 := by revert c; decide

theorem rowsInb {n r : ℕ} (h : r + n ≤ 1024) : ∀ a, (![r, 0] : Fin 2 → ℕ) a + (![n, 1024] : Fin 2 → ℕ) a ≤ S1024x1024.size a
  | ⟨0, _⟩ => h
  | ⟨1, _⟩ => Nat.le_refl 1024

/-- The output's rows: the low batch given away, the high one, the low one kept, the halves of the high one kept. -/
def outLG (c : Dev nD) (X : FVec F S256x1024 .f32) : sProp 𝕄 := held c outM ![rLowGive c, 0] S256x1024.size (rowsInb (lowGive_le c)) X
def outHG (c : Dev nD) (X : FVec F S256x1024 .f32) : sProp 𝕄 := held c outM ![rHighGive c, 0] S256x1024.size (rowsInb (highGive_le c)) X
def outLK (c : Dev nD) (X : FVec F S256x1024 .f32) : sProp 𝕄 := held c outM ![rLowKeep c, 0] S256x1024.size (rowsInb (lowKeep_le c)) X
def outHT (c : Dev nD) (X : FVec F S128x1024 .f32) : sProp 𝕄 :=
  held c outM ![rHighKeep c, 0] S128x1024.size (rowsInb (by have := highKeep_le c; omega)) X
def outHB (c : Dev nD) (X : FVec F S128x1024 .f32) : sProp 𝕄 :=
  held c outM ![rHighKeep c + 128, 0] S128x1024.size (rowsInb (by have := highKeep_le c; omega)) X

/-- The activations in row order. -/
def acts (c : Dev nD) (X : FVec F S1024x1024 .bf16) : sProp 𝕄 := held c hM ![0, 0] S1024x1024.size inb_S1024x1024_S1024x1024_0_0 X

theorem acts_load {Q : α → sProp 𝕄} (c : Dev nD) {off : Fin 2 → ℕ} {n r : ℕ} (hoff : off = ![r, 0]) (h : r + n ≤ 1024)
    {inb : ∀ a, off a + (![n, 1024] : Fin 2 → ℕ) a ≤ S1024x1024.size a}
    {hl : hM.view.LoadsAt (Rect.unit (s := S1024x1024) off ![n, 1024] inb).toLoadRect} {kk : ((⟨2, ![n, 1024]⟩ : Shape).Idx → Elt F .bf16) → Prog (TpuEff nD τ sig (Elt F) Λ₀ .tc) α} :
    acts c (I c).rows ⊢ iprop((acts c (I c).rows -∗ wpd c (kk ((I c).rowsAt n r)) Q)
      -∗ wpd c (.op (.load hM (Rect.unit (s := S1024x1024) off ![n, 1024] inb).toLoadRect hl) kk) Q) := by
  subst hoff
  unfold acts
  iintro H Hk
  iapply (held_load_inside c hM (off' := ![0, 0]) (size' := S1024x1024.size) (down r) (fun x a => by
    have h1 : (x 0).val < n := (x 0).isLt
    match a with
    | ⟨0, _⟩ => show r + (x 0).val = 0 + (r + (x 0).val) % 1024; rw [Nat.mod_eq_of_lt (by omega)]; omega
    | ⟨1, _⟩ => show 0 + (x 1).val = 0 + (x 1).val; rfl)) $$ [H]
  · iexact H
  iintro H
  iapply Hk
  iexact H

end Cert.HeadShard
-- ==== Proof.Parts.lean ====
/-
# The kernel's parts that touch memory, one by one

Each part is stated over what it touches only: what it needs, what it leaves, and the values it returns.
-/
module

public import proofs.«01_k».proof.Proof.Hold

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × CI → ℕ) (c : Dev nD)
variable (h0 : xM.IsWhole) (h1 : qM.IsWhole) (h2 : oM.IsWhole) (h3 : kM.IsWhole) (h4 : vM.IsWhole) (h5 : outM.IsWhole) (h6 : sM.IsWhole) (h7 : rM.IsWhole)
  (h8 : hM.IsWhole)

/-- The five inputs, as fetched. -/
def inputs : sProp 𝕄 :=
  iprop(held c xM ![0, 0, 0] S4x256x1024.size inb_S4x256x1024_S4x256x1024_0_0_0 (I c).x
    ∗ held c qM ![0, 0] S1024x1024.size inb_S1024x1024_S1024x1024_0_0 (I c).wq
    ∗ held c oM ![0, 0] S1024x1024.size inb_S1024x1024_S1024x1024_0_0 (I c).wo
    ∗ held c kM ![0, 0] S1024x1024.size inb_S1024x1024_S1024x1024_0_0 (I c).wk
    ∗ held c vM ![0, 0] S1024x1024.size inb_S1024x1024_S1024x1024_0_0 (I c).wv)

/-- Part 1: the barrier with both partners, and the inputs read. -/
theorem run1 {Q : _ → sProp 𝕄} :
    iprop(records I K ∗ handOver (F := F) true (pa c) ∗ handOver (F := F) false (pb c) ∗ dutyTok ER (barCell (pa c)) 0 true ∗ dutyTok ER (barCell (pb c)) 0 false
        ∗ cred (tallyAt (barCell c) () 2) ∗ atPos ER (barCell c) 0 ∅ 0 ∗ owing c (owed₀ c) ∗ inputs I c)
      ⊢ iprop((∀ v5 v7 v8 v9, (handOver (F := F) false c ∗ handOver (F := F) true c ∗ semVal (barCell c) 0 ∗ owing c (owed c sendOrder) ∗ inputs I c)
            -∗ Q ⟨c, v5, v7, v8, v9, (I c).q, (I c).k, (I c).v, (I c).o, k0_pay6 (I c).x⟩)
        -∗ wpd c (k0_part1 xM h0 qM h1 oM h2 kM h3 vM h4 outM h5 sM h6 rM h7 hM h8 cc0_scratch3 cc0_scratch4) Q) := by
  rw [k0_part1_eq_skeleton]; unfold k0_part1_skel inputs
  simp only [semSignalWord, semWaitWord, Prog.lift, Prog.bind_op, Prog.bind_ret, Prog.pure_eq_ret, wp_deviceId]
  iintro ⟨#Hr, Ha, Hb, Hta, Htb, Hc, Hat, HO, Hx, Hq, Ho, Hkk, Hv⟩ Hk
  iapply (signal_bar I K c (pa c) true (dev1_eq c) (owed₁ c) rfl) $$ [Ha Hta HO]
  · isplitr; · iexact Hr
    isplitl [Ha]; · iexact Ha
    isplitl [HO]; · iexact HO
    iexact Hta
  iintro HO
  iapply (signal_bar I K c (pb c) false (dev2_eq c) (owed c sendOrder) rfl) $$ [Hb Htb HO]
  · isplitr; · iexact Hr
    isplitl [Hb]; · iexact Hb
    isplitl [HO]; · iexact HO
    iexact Htb
  iintro HO
  iapply (wait_bar I K c rfl) $$ [Hc HO Hat]
  · isplitr; · iexact Hr
    isplitl [Hc]; · iexact Hc
    isplitl [HO]; · iexact HO
    iexact Hat
  iintro ⟨HO, Hf, Ht, Hz⟩
  iapply (held_load c qM rfl) $$ [Hq]
  · iexact Hq
  iintro Hq
  iapply (held_load c kM rfl) $$ [Hkk]
  · iexact Hkk
  iintro Hkk
  iapply (held_load c vM rfl) $$ [Hv]
  · iexact Hv
  iintro Hv
  iapply (held_load c oM rfl) $$ [Ho]
  · iexact Ho
  iintro Ho
  iapply (held_load c xM rfl) $$ [Hx]
  · iexact Hx
  iintro Hx
  iapply wp_done
  iapply Hk
  isplitl [Hf]; · iexact Hf
  isplitl [Ht]; · iexact Ht
  isplitl [Hz]; · iexact Hz
  isplitl [HO]; · iexact HO
  isplitl [Hx]; · iexact Hx
  isplitl [Hq]; · iexact Hq
  isplitl [Ho]; · iexact Ho
  isplitl [Hkk]; · iexact Hkk
  iexact Hv

/-- Part 2: the activations put in row order, and the first row block of them read. -/
theorem run2 {Q : _ → sProp 𝕄} {X₀} (v5 v7 : BitVec 32) :
    acts c X₀
      ⊢ iprop((∀ v34 v36 v38, acts c (I c).rows
            -∗ Q ⟨v34, v36, v38, k0_pay8 (I c).q ((I c).rowsAt 256 (rLowGive c)), k0_pay9 (I c).k ((I c).rowsAt 256 (rLowGive c)), k0_pay10 (I c).v ((I c).rowsAt 256 (rLowGive c)),
                k0_pay11 (I c).q (I c).k (I c).v ((I c).rowsAt 256 (rLowGive c)), k0_pay12 (I c).v ((I c).rowsAt 256 (rLowGive c)),
                k0_pay13 (I c).q (I c).k ((I c).rowsAt 256 (rLowGive c))⟩)
        -∗ wpd c (k0_part2 xM h0 qM h1 oM h2 kM h3 vM h4 outM h5 sM h6 rM h7 hM h8 cc0_scratch3 cc0_scratch4 c v5 v7 (I c).q (I c).k (I c).v (k0_pay6 (I c).x)) Q) := by
  rw [k0_part2_eq_skeleton]; unfold k0_part2_skel
  simp only [Prog.lift, Prog.bind_op, Prog.bind_ret, Prog.pure_eq_ret]
  iintro Hh Hk
  unfold acts
  iapply (held_load c hM rfl) $$ [Hh]
  · iexact Hh
  iintro Hh
  iapply (held_store c hM rfl) $$ [Hh]
  · iexact Hh
  iintro Hh
  iapply (acts_load I c (off1_eq c) (lowGive_le c)) $$ [Hh]
  · unfold acts; iexact Hh
  iintro Hh
  iapply wp_done
  iapply Hk
  unfold acts
  iexact Hh

/-- Part 5: the first partial kept and staged. -/
theorem run5 {Q : _ → sProp 𝕄} {X₀} (v8 v38 : BitVec 32) {v42 v44 v46 v63 v80 v97 v114 v131 v148 v151 v161 v162}
    (hA : k0_pay25 (I c).o v42 v44 v46 v63 v80 v97 v114 v131 v148 v151 v161 v162 = partA I c)
    (hs : k0_pay26 (I c).o v42 v44 v46 v63 v80 v97 v114 v131 v148 v151 v161 v162 = sent0 I c) :
    iprop(outLG c X₀ ∗ toSend (F := F) 0 c)
      ⊢ iprop(((outLG c (partA I c) ∗ ready I 0 c) -∗ Q ⟨⟩)
        -∗ wpd c (k0_part5 xM h0 qM h1 oM h2 kM h3 vM h4 outM h5 sM h6 rM h7 hM h8 cc0_scratch3 cc0_scratch4 c v8 (I c).o v38 v42 v44 v46 v63 v80 v97 v114 v131 v148 v151 v161 v162) Q) := by
  rw [k0_part5_eq_skeleton]; unfold k0_part5_skel
  simp only [Prog.lift, Prog.bind_op, Prog.bind_ret, Prog.pure_eq_ret]
  rw [hA, hs]
  iintro ⟨Ho, Hs⟩ Hk
  unfold outLG
  iapply (held_load c outM (off1_eq c)) $$ [Ho]
  · iexact Ho
  iintro Ho
  iapply (held_store c outM (off1_eq c)) $$ [Ho]
  · iexact Ho
  iintro Ho
  iapply (stage_load 0 c (off := ![0, 0, 0]) (size := S1x256x1024.size) rfl) $$ [Hs]
  · iexact Hs
  iintro %X Hs
  iapply (stage_store I 0 c (off := ![0, 0, 0]) (size := S1x256x1024.size) (w := sent0 I c) rfl rfl) $$ [Hs]
  · iexact Hs
  iintro Hs
  iapply wp_done
  iapply Hk
  isplitl [Ho]; · iexact Ho
  iexact Hs

/-- Part 6: the first message started, and the second row block read. -/
theorem run6 {Q : _ → sProp 𝕄} (v7 : BitVec 32) :
    iprop(records I K ∗ ready I 0 c ∗ landAny (F := F) 0 (peer 0 c) ∗ owing c (owed c [0, 1, 2, 3, 6, 4, 5, 7]) ∗ acts c (I c).rows)
      ⊢ iprop((∀ v203, (inFlight (F := F) 0 c ∗ owing c (owed c [1, 2, 3, 6, 4, 5, 7]) ∗ acts c (I c).rows)
            -∗ Q ⟨v203, k0_pay27 (I c).q ((I c).rowsAt 256 (rHighGive c)), k0_pay28 (I c).k ((I c).rowsAt 256 (rHighGive c)), k0_pay29 (I c).v ((I c).rowsAt 256 (rHighGive c)),
                k0_pay30 (I c).q (I c).k (I c).v ((I c).rowsAt 256 (rHighGive c)), k0_pay31 (I c).v ((I c).rowsAt 256 (rHighGive c)),
                k0_pay33 (I c).q (I c).k ((I c).rowsAt 256 (rHighGive c)), k0_pay34 (I c).q (I c).k ((I c).rowsAt 256 (rHighGive c)), constant S256x128 .f32 0x00000000#32⟩)
        -∗ wpd c (k0_part6 xM h0 qM h1 oM h2 kM h3 vM h4 outM h5 sM h6 rM h7 hM h8 cc0_scratch3 cc0_scratch4 c v7 (I c).q (I c).k (I c).v) Q) := by
  rw [k0_part6_eq_skeleton]; unfold k0_part6_skel
  simp only [Prog.lift, Prog.bind_op, Prog.bind_ret, Prog.pure_eq_ret]
  iintro ⟨#Hr, Hs, Hl, HO, Hh⟩ Hk
  iapply (start I K c 0 [1, 2, 3, 6, 4, 5, 7] (dev3_eq c) (off := ![0, 0, 0]) (size := S1x256x1024.size) rfl rfl rfl rfl credR_full) $$ [Hs Hl HO]
  · isplitr; · iexact Hr
    isplitl [Hs]; · iexact Hs
    isplitl [Hl]; · iexact Hl
    iexact HO
  iintro ⟨Hs, HO⟩
  iapply (acts_load I c (off2_eq c) (highGive_le c)) $$ [Hh]
  · iexact Hh
  iintro Hh
  iapply wp_done
  iapply Hk
  isplitl [Hs]; · iexact Hs
  isplitl [HO]; · iexact HO
  iexact Hh

/-- Part 9: the second partial kept, staged and started; the third row block read. -/
theorem run9 {Q : _ → sProp 𝕄} {X₀} (v5 v9 v203 : BitVec 32) {v228 v245 v262 v279 v296 v313 v330 v333 v334 v335}
    (hB : k0_pay46 (I c).o v228 v245 v262 v279 v296 v313 v330 v333 v334 v335 = partB I c)
    (hs : k0_pay47 (I c).o v228 v245 v262 v279 v296 v313 v330 v333 v334 v335 = sent1 I c) :
    iprop(records I K ∗ outHG c X₀ ∗ toSend (F := F) 1 c ∗ landAny (F := F) 1 (peer 1 c) ∗ owing c (owed c [1, 2, 3, 6, 4, 5, 7]) ∗ acts c (I c).rows)
      ⊢ iprop((∀ v367, (outHG c (partB I c) ∗ inFlight (F := F) 1 c ∗ owing c (owed c [2, 3, 6, 4, 5, 7]) ∗ acts c (I c).rows)
            -∗ Q ⟨v367, (I c).rowsAt 256 (rLowKeep c), k0_pay48 (I c).q ((I c).rowsAt 256 (rLowKeep c))⟩)
        -∗ wpd c (k0_part9 xM h0 qM h1 oM h2 kM h3 vM h4 outM h5 sM h6 rM h7 hM h8 cc0_scratch3 cc0_scratch4 c v5 v9 (I c).q (I c).o v203
            v228 v245 v262 v279 v296 v313 v330 v333 v334 v335) Q) := by
  rw [k0_part9_eq_skeleton]; unfold k0_part9_skel
  simp only [Prog.lift, Prog.bind_op, Prog.bind_ret, Prog.pure_eq_ret]
  rw [hB, hs]
  iintro ⟨#Hr, Ho, Hs, Hl, HO, Hh⟩ Hk
  unfold outHG
  iapply (held_load c outM (off2_eq c)) $$ [Ho]
  · iexact Ho
  iintro Ho
  iapply (held_store c outM (off2_eq c)) $$ [Ho]
  · iexact Ho
  iintro Ho
  iapply (stage_load 1 c (off := ![1, 0, 0]) (size := S1x256x1024.size) rfl) $$ [Hs]
  · iexact Hs
  iintro %X Hs
  iapply (stage_store I 1 c (off := ![1, 0, 0]) (size := S1x256x1024.size) (w := sent1 I c) rfl rfl) $$ [Hs]
  · iexact Hs
  iintro Hs
  iapply (start I K c 1 [2, 3, 6, 4, 5, 7] (dev4_eq c) (off := ![1, 0, 0]) (size := S1x256x1024.size) rfl rfl rfl rfl credR_full) $$ [Hs Hl HO]
  · isplitr; · iexact Hr
    isplitl [Hs]; · iexact Hs
    isplitl [Hl]; · iexact Hl
    iexact HO
  iintro ⟨Hs, HO⟩
  iapply (acts_load I c (off3_eq c) (lowKeep_le c)) $$ [Hh]
  · iexact Hh
  iintro Hh
  iapply wp_done
  iapply Hk
  isplitl [Ho]; · iexact Ho
  isplitl [Hs]; · iexact Hs
  isplitl [HO]; · iexact HO
  iexact Hh

/-- Part 13: the third partial kept; the first message out and in; the sum of the two. -/
theorem run13 {Q : _ → sProp 𝕄} {X₀} (v8 v34 v367 : BitVec 32) {v392 v409 v426 v443 v460 v477 v494 v507 v509}
    (hC : k0_pay67 (I c).o v392 v409 v426 v443 v460 v477 v494 v507 v509 = partC I c) :
    iprop(records I K ∗ outLK c X₀ ∗ inFlight (F := F) 0 c ∗ toCome (F := F) 0 c ∗ owing c (owed c [2, 3, 6, 4, 5, 7]))
      ⊢ iprop(((outLK c (partC I c) ∗ gone (F := F) 0 c ∗ came I 0 c ∗ owing c (owed c [2, 3, 6, 4, 5, 7])) -∗ Q (sumC I c))
        -∗ wpd c (k0_part13 xM h0 qM h1 oM h2 kM h3 vM h4 outM h5 sM h6 rM h7 hM h8 cc0_scratch3 cc0_scratch4 c v8 (I c).o v34 v367
            v392 v409 v426 v443 v460 v477 v494 v507 v509) Q) := by
  rw [k0_part13_eq_skeleton]; unfold k0_part13_skel
  simp only [Prog.lift, Prog.bind_op, Prog.bind_ret, Prog.pure_eq_ret]
  rw [hC]
  iintro ⟨#Hr, Ho, Hs, Hc, HO⟩ Hk
  unfold outLK
  iapply (held_load c outM (off3_eq c)) $$ [Ho]
  · iexact Ho
  iintro Ho
  iapply (held_store c outM (off3_eq c)) $$ [Ho]
  · iexact Ho
  iintro Ho
  iapply (back I K c 0 [2, 3, 6, 4, 5, 7] (by decide) rfl credS_full) $$ [Hs HO]
  · isplitr; · iexact Hr
    isplitl [Hs]; · iexact Hs
    iexact HO
  iintro ⟨Hs, HO⟩
  iapply (come I K c 0 [2, 3, 6, 4, 5, 7] (by decide) rfl credR_full) $$ [Hc HO]
  · isplitr; · iexact Hr
    isplitl [Hc]; · iexact Hc
    iexact HO
  iintro ⟨Hc, HO⟩
  iapply (held_load c outM (off4_eq c)) $$ [Ho]
  · iexact Ho
  iintro Ho
  iapply (land_load I 0 c (off := ![0, 0, 0]) (size := S1x256x1024.size) (X := sent0 I (pa c)) rfl) $$ [Hc]
  · iexact Hc
  iintro Hc
  iapply wp_done
  rw [show k0_pay68 (partC I c) (sent0 I (pa c)) = sumC I c from rfl]
  iapply Hk
  isplitl [Ho]; · iexact Ho
  isplitl [Hs]; · iexact Hs
  isplitl [Hc]; · iexact Hc
  iexact HO

/-- Part 14: the sum kept, staged and started; the fourth row block and its top half read. -/
theorem run14 {Q : _ → sProp 𝕄} {X₀} (v7 v9 : BitVec 32) :
    iprop(records I K ∗ outLK c X₀ ∗ toSend (F := F) 2 c ∗ landAny (F := F) 2 (peer 2 c) ∗ owing c (owed c [2, 3, 6, 4, 5, 7]) ∗ acts c (I c).rows)
      ⊢ iprop((∀ v564, (outLK c (sumC I c) ∗ inFlight (F := F) 2 c ∗ owing c (owed c [3, 6, 4, 5, 7]) ∗ acts c (I c).rows)
            -∗ Q ⟨k0_pay70 (I c).k ((I c).rowsAt 256 (rHighKeep c)), k0_pay71 (I c).v ((I c).rowsAt 256 (rHighKeep c)), v564, k0_pay72 (I c).q ((I c).rowsAt 128 (rHighKeep c)),
                k0_pay73 (I c).v ((I c).rowsAt 256 (rHighKeep c)), k0_pay74 (I c).q (I c).k ((I c).rowsAt 256 (rHighKeep c)) ((I c).rowsAt 128 (rHighKeep c)),
                Scalar.ofBits .f32 0x3DB504F3#32⟩)
        -∗ wpd c (k0_part14 xM h0 qM h1 oM h2 kM h3 vM h4 outM h5 sM h6 rM h7 hM h8 cc0_scratch3 cc0_scratch4 c v7 v9 (I c).q (I c).k (I c).v (sumC I c)) Q) := by
  rw [k0_part14_eq_skeleton]; unfold k0_part14_skel
  simp only [Prog.lift, Prog.bind_op, Prog.bind_ret, Prog.pure_eq_ret]
  iintro ⟨#Hr, Ho, Hs, Hl, HO, Hh⟩ Hk
  unfold outLK
  iapply (held_load c outM (off4_eq c)) $$ [Ho]
  · iexact Ho
  iintro Ho
  iapply (held_store c outM (off4_eq c)) $$ [Ho]
  · iexact Ho
  iintro Ho
  iapply (stage_load 2 c (off := ![2, 0, 0]) (size := S1x256x1024.size) rfl) $$ [Hs]
  · iexact Hs
  iintro %X Hs
  iapply (stage_store I 2 c (off := ![2, 0, 0]) (size := S1x256x1024.size) (w := sent2 I c) rfl rfl) $$ [Hs]
  · iexact Hs
  iintro Hs
  iapply (start I K c 2 [3, 6, 4, 5, 7] (dev5_eq c) (off := ![2, 0, 0]) (size := S1x256x1024.size) rfl rfl rfl rfl credR_full) $$ [Hs Hl HO]
  · isplitr; · iexact Hr
    isplitl [Hs]; · iexact Hs
    isplitl [Hl]; · iexact Hl
    iexact HO
  iintro ⟨Hs, HO⟩
  iapply (acts_load I c (off5_eq c) (highKeep_le c)) $$ [Hh]
  · iexact Hh
  iintro Hh
  iapply (acts_load I c (n := 128) (off6_top c) (by have := highKeep_le c; omega)) $$ [Hh]
  · iexact Hh
  iintro Hh
  iapply wp_done
  iapply Hk
  isplitl [Ho]; · iexact Ho
  isplitl [Hs]; · iexact Hs
  isplitl [HO]; · iexact HO
  iexact Hh

/-- Part 17: the fourth partial kept. -/
theorem run17 {Q : _ → sProp 𝕄} {X₀} (v564 : BitVec 32) {v560 v562 v568 v585 v602 v619 v636 v653 v656 v664 v665}
    (hD : k0_pay83 (I c).o v560 v562 v568 v585 v602 v619 v636 v653 v656 v664 v665 = partD I c) :
    outHT c X₀
      ⊢ iprop((outHT c (partD I c) -∗ Q ⟨⟩)
        -∗ wpd c (k0_part17 xM h0 qM h1 oM h2 kM h3 vM h4 outM h5 sM h6 rM h7 hM h8 cc0_scratch3 cc0_scratch4 c (I c).o v560 v562 v564 v568
            v585 v602 v619 v636 v653 v656 v664 v665) Q) := by
  rw [k0_part17_eq_skeleton]; unfold k0_part17_skel
  simp only [Prog.lift, Prog.bind_op, Prog.bind_ret, Prog.pure_eq_ret]
  rw [hD]
  iintro Ho Hk
  unfold outHT
  iapply (held_load c outM (off6_top c)) $$ [Ho]
  · iexact Ho
  iintro Ho
  iapply (held_store c outM (off6_top c)) $$ [Ho]
  · iexact Ho
  iintro Ho
  iapply wp_done
  iapply Hk
  iexact Ho

/-- Part 18: the second message out and in; its top half added to the fourth partial, kept and staged. -/
theorem run18 {Q : _ → sProp 𝕄} (v9 v36 : BitVec 32) :
    iprop(records I K ∗ outHT c (partD I c) ∗ inFlight (F := F) 1 c ∗ toCome (F := F) 1 c ∗ toSend (F := F) 3 c ∗ owing c (owed c [3, 6, 4, 5, 7]))
      ⊢ iprop(((outHT c (sumD I c) ∗ gone (F := F) 1 c ∗ came I 1 c ∗ ready I 3 c ∗ owing c (owed c [3, 6, 4, 5, 7])) -∗ Q ⟨⟩)
        -∗ wpd c (k0_part18 xM h0 qM h1 oM h2 kM h3 vM h4 outM h5 sM h6 rM h7 hM h8 cc0_scratch3 cc0_scratch4 c v9 v36) Q) := by
  rw [k0_part18_eq_skeleton]; unfold k0_part18_skel
  simp only [Prog.lift, Prog.bind_op, Prog.bind_ret, Prog.pure_eq_ret]
  iintro ⟨#Hr, Ho, Hs, Hc, Hn, HO⟩ Hk
  unfold outHT
  iapply (back I K c 1 [3, 6, 4, 5, 7] (by decide) rfl credS_full) $$ [Hs HO]
  · isplitr; · iexact Hr
    isplitl [Hs]; · iexact Hs
    iexact HO
  iintro ⟨Hs, HO⟩
  iapply (come I K c 1 [3, 6, 4, 5, 7] (by decide) rfl credR_full) $$ [Hc HO]
  · isplitr; · iexact Hr
    isplitl [Hc]; · iexact Hc
    iexact HO
  iintro ⟨Hc, HO⟩
  iapply (held_load c outM (off7_eq c)) $$ [Ho]
  · iexact Ho
  iintro Ho
  iapply (half_load I c 0 (by decide)) $$ [Hc]
  · iexact Hc
  iintro Hc
  iapply (held_load c outM (off7_eq c)) $$ [Ho]
  · iexact Ho
  iintro Ho
  iapply (held_store c outM (off7_eq c)) $$ [Ho]
  · iexact Ho
  iintro Ho
  iapply (stage_load 3 c (off := ![3, 0, 0]) (size := S1x128x1024.size) rfl) $$ [Hn]
  · iexact Hn
  iintro %X Hn
  iapply (stage_store I 3 c (off := ![3, 0, 0]) (size := S1x128x1024.size) (w := sent3 I c) rfl rfl) $$ [Hn]
  · iexact Hn
  iintro Hn
  iapply wp_done
  iapply Hk
  isplitl [Ho]; · iexact Ho
  isplitl [Hs]; · iexact Hs
  isplitl [Hc]; · iexact Hc
  isplitl [Hn]; · iexact Hn
  iexact HO

/-- Part 19: that message started; the bottom half of the fourth row block read. -/
theorem run19 {Q : _ → sProp 𝕄} (v7 v8 : BitVec 32) {v560 v562} :
    iprop(records I K ∗ ready I 3 c ∗ landAny (F := F) 3 (peer 3 c) ∗ owing c (owed c [3, 6, 4, 5, 7]) ∗ acts c (I c).rows)
      ⊢ iprop((∀ v750, (inFlight (F := F) 3 c ∗ owing c (owed c [6, 4, 5, 7]) ∗ acts c (I c).rows)
            -∗ Q ⟨v750, k0_pay86 (I c).q ((I c).rowsAt 128 (rHighKeep c + 128)), k0_pay87 (I c).q v560 v562 ((I c).rowsAt 128 (rHighKeep c + 128)), k0_pay88 v562,
                k0_pay89 (I c).q v560 ((I c).rowsAt 128 (rHighKeep c + 128)), k0_pay90 (F := F)⟩)
        -∗ wpd c (k0_part19 xM h0 qM h1 oM h2 kM h3 vM h4 outM h5 sM h6 rM h7 hM h8 cc0_scratch3 cc0_scratch4 c v7 v8 (I c).q v560 v562) Q) := by
  rw [k0_part19_eq_skeleton]; unfold k0_part19_skel
  simp only [Prog.lift, Prog.bind_op, Prog.bind_ret, Prog.pure_eq_ret]
  iintro ⟨#Hr, Hs, Hl, HO, Hh⟩ Hk
  iapply (start I K c 3 [6, 4, 5, 7] (dev6_eq c) (off := ![3, 0, 0]) (size := S1x128x1024.size) rfl rfl rfl rfl credR_half) $$ [Hs Hl HO]
  · isplitr; · iexact Hr
    isplitl [Hs]; · iexact Hs
    isplitl [Hl]; · iexact Hl
    iexact HO
  iintro ⟨Hs, HO⟩
  iapply (acts_load I c (n := 128) (off6_bot c) (by have := highKeep_le c; omega)) $$ [Hh]
  · iexact Hh
  iintro Hh
  iapply wp_done
  iapply Hk
  isplitl [Hs]; · iexact Hs
  isplitl [HO]; · iexact HO
  iexact Hh

/-- Part 22: the fifth partial kept, the bottom half of the second message added to it. -/
theorem run22 {Q : _ → sProp 𝕄} {X₀} (v36 v750 : BitVec 32) {v560 v562 v754 v771 v788 v805 v822 v839 v856 v859 v867 v869}
    (hE : k0_pay100 (I c).o v560 v562 v754 v771 v788 v805 v822 v839 v856 v859 v867 v869 = partE I c) :
    iprop(outHB c X₀ ∗ came I 1 c ∗ toSend (F := F) 6 c)
      ⊢ iprop(((outHB c (sumE I c) ∗ came I 1 c ∗ toSend (F := F) 6 c) -∗ Q (k0_pay102 (partE I c) (fun x => sent1 I (pb c) (halfIn 128 x))))
        -∗ wpd c (k0_part22 xM h0 qM h1 oM h2 kM h3 vM h4 outM h5 sM h6 rM h7 hM h8 cc0_scratch3 cc0_scratch4 c (I c).o v36 v560 v562 v750 v754
            v771 v788 v805 v822 v839 v856 v859 v867 v869) Q) := by
  rw [k0_part22_eq_skeleton]; unfold k0_part22_skel
  simp only [Prog.lift, Prog.bind_op, Prog.bind_ret, Prog.pure_eq_ret]
  rw [hE]
  iintro ⟨Ho, Hc, Hn⟩ Hk
  unfold outHB
  iapply (held_load c outM (off6_bot c)) $$ [Ho]
  · iexact Ho
  iintro Ho
  iapply (held_store c outM (off6_bot c)) $$ [Ho]
  · iexact Ho
  iintro Ho
  iapply (held_load c outM (off8_eq c)) $$ [Ho]
  · iexact Ho
  iintro Ho
  iapply (half_load I c 128 (by decide)) $$ [Hc]
  · iexact Hc
  iintro Hc
  iapply (held_load c outM (off8_eq c)) $$ [Ho]
  · iexact Ho
  iintro Ho
  iapply (held_store c outM (off8_eq c)) $$ [Ho]
  · iexact Ho
  iintro Ho
  iapply (stage_load 6 c (off := ![3, 128, 0]) (size := S1x128x1024.size) rfl) $$ [Hn]
  · iexact Hn
  iintro %X Hn
  iapply wp_done
  iapply Hk
  isplitl [Ho]; · iexact Ho
  isplitl [Hc]; · iexact Hc
  iexact Hn

/-- Part 23: that sum staged and started; message 2 out and in. -/
theorem run23 {Q : _ → sProp 𝕄} (v8 v9 v34 : BitVec 32) {v907} (hs : k0_pay103 v907 = sent6 I c) :
    iprop(records I K ∗ toSend (F := F) 6 c ∗ landAny (F := F) 6 (peer 6 c) ∗ inFlight (F := F) 2 c ∗ toCome (F := F) 2 c ∗ owing c (owed c [6, 4, 5, 7]))
      ⊢ iprop((∀ v935, (inFlight (F := F) 6 c ∗ gone (F := F) 2 c ∗ came I 2 c ∗ owing c (owed c [4, 5, 7])) -∗ Q v935)
        -∗ wpd c (k0_part23 xM h0 qM h1 oM h2 kM h3 vM h4 outM h5 sM h6 rM h7 hM h8 cc0_scratch3 cc0_scratch4 c v8 v9 v34 v907) Q) := by
  rw [k0_part23_eq_skeleton]; unfold k0_part23_skel
  simp only [Prog.lift, Prog.bind_op, Prog.bind_ret, Prog.pure_eq_ret]
  rw [hs]
  iintro ⟨#Hr, Hn, Hl, Hs, Hc, HO⟩ Hk
  iapply (stage_store I 6 c (off := ![3, 128, 0]) (size := S1x128x1024.size) (w := sent6 I c) rfl rfl) $$ [Hn]
  · iexact Hn
  iintro Hn
  iapply (start I K c 6 [4, 5, 7] (dev7_eq c) (off := ![3, 128, 0]) (size := S1x128x1024.size) rfl rfl rfl rfl credR_half) $$ [Hn Hl HO]
  · isplitr; · iexact Hr
    isplitl [Hn]; · iexact Hn
    isplitl [Hl]; · iexact Hl
    iexact HO
  iintro ⟨Hn, HO⟩
  iapply (back I K c 2 [4, 5, 7] (by decide) rfl credS_full) $$ [Hs HO]
  · isplitr; · iexact Hr
    isplitl [Hs]; · iexact Hs
    iexact HO
  iintro ⟨Hs, HO⟩
  iapply (come I K c 2 [4, 5, 7] (by decide) rfl credR_full) $$ [Hc HO]
  · isplitr; · iexact Hr
    isplitl [Hc]; · iexact Hc
    iexact HO
  iintro ⟨Hc, HO⟩
  iapply wp_done
  iapply Hk
  isplitl [Hn]; · iexact Hn
  isplitl [Hs]; · iexact Hs
  isplitl [Hc]; · iexact Hc
  iexact HO

/-- Part 24: the low batch complete: kept, staged and started; message 3 out. -/
theorem run24 {Q : _ → sProp 𝕄} (v8 v935 : BitVec 32) :
    iprop(records I K ∗ outLK c (sumC I c) ∗ came I 2 c ∗ toSend (F := F) 4 c ∗ landAny (F := F) 4 (peer 4 c) ∗ inFlight (F := F) 3 c ∗ owing c (owed c [4, 5, 7]))
      ⊢ iprop(((outLK c (outC I c) ∗ came I 2 c ∗ inFlight (F := F) 4 c ∗ gone (F := F) 3 c ∗ owing c (owed c [5, 7])) -∗ Q ⟨⟩)
        -∗ wpd c (k0_part24 xM h0 qM h1 oM h2 kM h3 vM h4 outM h5 sM h6 rM h7 hM h8 cc0_scratch3 cc0_scratch4 c v8 v935) Q) := by
  rw [k0_part24_eq_skeleton]; unfold k0_part24_skel
  simp only [Prog.lift, Prog.bind_op, Prog.bind_ret, Prog.pure_eq_ret]
  iintro ⟨#Hr, Ho, Hc, Hn, Hl, Hs, HO⟩ Hk
  unfold outLK
  iapply (held_load c outM (off4_eq c)) $$ [Ho]
  · iexact Ho
  iintro Ho
  iapply (land_load I 2 c (off := ![2, 0, 0]) (size := S1x256x1024.size) (X := sent2 I (pb c)) rfl) $$ [Hc]
  · iexact Hc
  iintro Hc
  iapply (held_load c outM (off4_eq c)) $$ [Ho]
  · iexact Ho
  iintro Ho
  iapply (held_store c outM (off4_eq c)) $$ [Ho]
  · iexact Ho
  iintro Ho
  iapply (stage_load 4 c (off := ![4, 0, 0]) (size := S1x256x1024.size) rfl) $$ [Hn]
  · iexact Hn
  iintro %X Hn
  iapply (stage_store I 4 c (off := ![4, 0, 0]) (size := S1x256x1024.size) (w := sent4 I c) rfl rfl) $$ [Hn]
  · iexact Hn
  iintro Hn
  iapply (start I K c 4 [5, 7] (dev8_eq c) (off := ![4, 0, 0]) (size := S1x256x1024.size) rfl rfl rfl rfl credR_full) $$ [Hn Hl HO]
  · isplitr; · iexact Hr
    isplitl [Hn]; · iexact Hn
    isplitl [Hl]; · iexact Hl
    iexact HO
  iintro ⟨Hn, HO⟩
  iapply (back I K c 3 [5, 7] (by decide) rfl credS_half) $$ [Hs HO]
  · isplitr; · iexact Hr
    isplitl [Hs]; · iexact Hs
    iexact HO
  iintro ⟨Hs, HO⟩
  iapply wp_done
  iapply Hk
  isplitl [Ho]; · iexact Ho
  isplitl [Hc]; · iexact Hc
  isplitl [Hn]; · iexact Hn
  isplitl [Hs]; · iexact Hs
  iexact HO

/-- Part 25: message 3 in; the top half of the high batch complete, kept and staged. -/
theorem run25 {Q : _ → sProp 𝕄} (v8 v9 v36 : BitVec 32) :
    iprop(records I K ∗ outHT c (sumD I c) ∗ toCome (F := F) 3 c ∗ toSend (F := F) 5 c ∗ owing c (owed c [5, 7]))
      ⊢ iprop(((outHT c (outD I c) ∗ came I 3 c ∗ ready I 5 c ∗ owing c (owed c [5, 7])) -∗ Q ⟨⟩)
        -∗ wpd c (k0_part25 xM h0 qM h1 oM h2 kM h3 vM h4 outM h5 sM h6 rM h7 hM h8 cc0_scratch3 cc0_scratch4 c v8 v9 v36) Q) := by
  rw [k0_part25_eq_skeleton]; unfold k0_part25_skel
  simp only [Prog.lift, Prog.bind_op, Prog.bind_ret, Prog.pure_eq_ret]
  iintro ⟨#Hr, Ho, Hc, Hn, HO⟩ Hk
  unfold outHT
  iapply (come I K c 3 [5, 7] (by decide) rfl credR_half) $$ [Hc HO]
  · isplitr; · iexact Hr
    isplitl [Hc]; · iexact Hc
    iexact HO
  iintro ⟨Hc, HO⟩
  iapply (held_load c outM (off7_eq c)) $$ [Ho]
  · iexact Ho
  iintro Ho
  iapply (land_load I 3 c (off := ![3, 0, 0]) (size := S1x128x1024.size) (X := sent3 I (pa c)) rfl) $$ [Hc]
  · iexact Hc
  iintro Hc
  iapply (held_load c outM (off7_eq c)) $$ [Ho]
  · iexact Ho
  iintro Ho
  iapply (held_store c outM (off7_eq c)) $$ [Ho]
  · iexact Ho
  iintro Ho
  iapply (stage_load 5 c (off := ![5, 0, 0]) (size := S1x128x1024.size) rfl) $$ [Hn]
  · iexact Hn
  iintro %X Hn
  iapply (stage_store I 5 c (off := ![5, 0, 0]) (size := S1x128x1024.size) (w := sent5 I c) rfl rfl) $$ [Hn]
  · iexact Hn
  iintro Hn
  iapply wp_done
  iapply Hk
  isplitl [Ho]; · iexact Ho
  isplitl [Hc]; · iexact Hc
  isplitl [Hn]; · iexact Hn
  iexact HO

/-- Part 26: that message started; message 6 out and in; the bottom half of the high batch complete and kept. -/
theorem run26 {Q : _ → sProp 𝕄} (v8 v36 : BitVec 32) :
    iprop(records I K ∗ ready I 5 c ∗ landAny (F := F) 5 (peer 5 c) ∗ inFlight (F := F) 6 c ∗ toCome (F := F) 6 c ∗ outHB c (sumE I c) ∗ owing c (owed c [5, 7]))
      ⊢ iprop(((inFlight (F := F) 5 c ∗ gone (F := F) 6 c ∗ came I 6 c ∗ outHB c (outE I c) ∗ owing c (owed c [7])) -∗ Q (k0_pay109 (sumE I c) (sent6 I (pa c))))
        -∗ wpd c (k0_part26 xM h0 qM h1 oM h2 kM h3 vM h4 outM h5 sM h6 rM h7 hM h8 cc0_scratch3 cc0_scratch4 c v8 v36) Q) := by
  rw [k0_part26_eq_skeleton]; unfold k0_part26_skel
  simp only [Prog.lift, Prog.bind_op, Prog.bind_ret, Prog.pure_eq_ret]
  iintro ⟨#Hr, Hn, Hl, Hs, Hc, Ho, HO⟩ Hk
  unfold outHB
  iapply (start I K c 5 [7] (dev9_eq c) (off := ![5, 0, 0]) (size := S1x128x1024.size) rfl rfl rfl rfl credR_half) $$ [Hn Hl HO]
  · isplitr; · iexact Hr
    isplitl [Hn]; · iexact Hn
    isplitl [Hl]; · iexact Hl
    iexact HO
  iintro ⟨Hn, HO⟩
  iapply (back I K c 6 [7] (by decide) rfl credS_half) $$ [Hs HO]
  · isplitr; · iexact Hr
    isplitl [Hs]; · iexact Hs
    iexact HO
  iintro ⟨Hs, HO⟩
  iapply (come I K c 6 [7] (by decide) rfl credR_half) $$ [Hc HO]
  · isplitr; · iexact Hr
    isplitl [Hc]; · iexact Hc
    iexact HO
  iintro ⟨Hc, HO⟩
  iapply (held_load c outM (off8_eq c)) $$ [Ho]
  · iexact Ho
  iintro Ho
  iapply (land_load I 6 c (off := ![3, 128, 0]) (size := S1x128x1024.size) (X := sent6 I (pa c)) rfl) $$ [Hc]
  · iexact Hc
  iintro Hc
  iapply (held_load c outM (off8_eq c)) $$ [Ho]
  · iexact Ho
  iintro Ho
  iapply (held_store c outM (off8_eq c)) $$ [Ho]
  · iexact Ho
  iintro Ho
  iapply wp_done
  iapply Hk
  isplitl [Hn]; · iexact Hn
  isplitl [Hs]; · iexact Hs
  isplitl [Hc]; · iexact Hc
  isplitl [Ho]; · iexact Ho
  iexact HO

/-- Part 27: it is staged and started; message 4 out. -/
theorem run27 {Q : _ → sProp 𝕄} (v8 v9 : BitVec 32) {v1022} (hs : k0_pay110 v1022 = sent7 I c) :
    iprop(records I K ∗ toSend (F := F) 7 c ∗ landAny (F := F) 7 (peer 7 c) ∗ inFlight (F := F) 4 c ∗ owing c (owed c [7]))
      ⊢ iprop(((inFlight (F := F) 7 c ∗ gone (F := F) 4 c ∗ owing c (owed c [])) -∗ Q ⟨⟩)
        -∗ wpd c (k0_part27 xM h0 qM h1 oM h2 kM h3 vM h4 outM h5 sM h6 rM h7 hM h8 cc0_scratch3 cc0_scratch4 c v8 v9 v1022) Q) := by
  rw [k0_part27_eq_skeleton]; unfold k0_part27_skel
  simp only [Prog.lift, Prog.bind_op, Prog.bind_ret, Prog.pure_eq_ret]
  rw [hs]
  iintro ⟨#Hr, Hn, Hl, Hs, HO⟩ Hk
  iapply (stage_load 7 c (off := ![5, 128, 0]) (size := S1x128x1024.size) rfl) $$ [Hn]
  · iexact Hn
  iintro %X Hn
  iapply (stage_store I 7 c (off := ![5, 128, 0]) (size := S1x128x1024.size) (w := sent7 I c) rfl rfl) $$ [Hn]
  · iexact Hn
  iintro Hn
  iapply (start I K c 7 [] (dev10_eq c) (off := ![5, 128, 0]) (size := S1x128x1024.size) rfl rfl rfl rfl credR_half) $$ [Hn Hl HO]
  · isplitr; · iexact Hr
    isplitl [Hn]; · iexact Hn
    isplitl [Hl]; · iexact Hl
    iexact HO
  iintro ⟨Hn, HO⟩
  iapply (back I K c 4 [] (by decide) rfl credS_full) $$ [Hs HO]
  · isplitr; · iexact Hr
    isplitl [Hs]; · iexact Hs
    iexact HO
  iintro ⟨Hs, HO⟩
  iapply wp_done
  iapply Hk
  isplitl [Hn]; · iexact Hn
  isplitl [Hs]; · iexact Hs
  iexact HO

/-- Part 28: message 4 in, the low batch given away back in place; message 5 out and in. -/
theorem run28 {Q : _ → sProp 𝕄} {X₀} (v5 v9 : BitVec 32) :
    iprop(records I K ∗ toCome (F := F) 4 c ∗ outLG c X₀ ∗ inFlight (F := F) 5 c ∗ toCome (F := F) 5 c ∗ owing c (owed c []))
      ⊢ iprop(((came I 4 c ∗ outLG c (outA I c) ∗ gone (F := F) 5 c ∗ came I 5 c ∗ owing c (owed c [])) -∗ Q ⟨⟩)
        -∗ wpd c (k0_part28 xM h0 qM h1 oM h2 kM h3 vM h4 outM h5 sM h6 rM h7 hM h8 cc0_scratch3 cc0_scratch4 c v5 v9) Q) := by
  rw [k0_part28_eq_skeleton]; unfold k0_part28_skel
  simp only [Prog.lift, Prog.bind_op, Prog.bind_ret, Prog.pure_eq_ret]
  iintro ⟨#Hr, Hc, Ho, Hs, Hd, HO⟩ Hk
  unfold outLG
  iapply (come I K c 4 [] (by decide) rfl credR_full) $$ [Hc HO]
  · isplitr; · iexact Hr
    isplitl [Hc]; · iexact Hc
    iexact HO
  iintro ⟨Hc, HO⟩
  iapply (land_load I 4 c (off := ![4, 0, 0]) (size := S1x256x1024.size) (X := sent4 I (pa c)) rfl) $$ [Hc]
  · iexact Hc
  iintro Hc
  iapply (held_load c outM (off9_eq c)) $$ [Ho]
  · iexact Ho
  iintro Ho
  iapply (held_store c outM (off9_eq c)) $$ [Ho]
  · iexact Ho
  iintro Ho
  iapply (back I K c 5 [] (by decide) rfl credS_half) $$ [Hs HO]
  · isplitr; · iexact Hr
    isplitl [Hs]; · iexact Hs
    iexact HO
  iintro ⟨Hs, HO⟩
  iapply (come I K c 5 [] (by decide) rfl credR_half) $$ [Hd HO]
  · isplitr; · iexact Hr
    isplitl [Hd]; · iexact Hd
    iexact HO
  iintro ⟨Hd, HO⟩
  iapply wp_done
  iapply Hk
  isplitl [Hc]; · iexact Hc
  isplitl [Ho]; · iexact Ho
  isplitl [Hs]; · iexact Hs
  isplitl [Hd]; · iexact Hd
  iexact HO

end Cert.HeadShard
-- ==== Proof.Whole.lean ====
/-
# The kernel on one device, from its inputs to its output

The parts run one after the other. What a device starts with, and what it ends with: its output's row blocks at the sums
of all four partials, every staging and landing slot held, every semaphore out of use.
-/
module

public import proofs.«01_k».proof.Proof.Parts

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × CI → ℕ) (c : Dev nD)

/-! ## The last message, in two halves -/

def halfOff : Fin 2 → Fin 3 → ℕ := ![![5, 0, 0], ![5, 128, 0]]
theorem halfInb : ∀ (t : Fin 2) a, halfOff t a + (S1x128x1024.size : Fin 3 → ℕ) a ≤ S8x256x1024.size a := by decide
theorem halfApart : ∀ t t' : Fin 2, t ≠ t' → ∃ a, halfOff t a + (S1x128x1024.size : Fin 3 → ℕ) a ≤ halfOff t' a ∨ halfOff t' a + (S1x128x1024.size : Fin 3 → ℕ) a ≤ halfOff t a := by
  decide

def halves : Fin 2 → (S1x128x1024.Idx → Elt F .bf16) := ![sent5 I (pb c), sent7 I (pb c)]

/-- The elements of the two halves. -/
abbrev bothSet : Finset (Idx (rM.view.loc (c : Thread nD τ))) := Finset.univ.biUnion (boxSet c rM halfOff (fun _ => S1x128x1024.size) halfInb)

theorem halves_split : (bigSep Finset.univ fun t => held c rM (halfOff t) S1x128x1024.size (halfInb t) (halves I c t) : sProp 𝕄)
    = iprop(held c rM ![5, 0, 0] S1x128x1024.size (halfInb 0) (sent5 I (pb c)) ∗ held c rM ![5, 128, 0] S1x128x1024.size (halfInb 1) (sent7 I (pb c))) := by
  rw [bigSep_univ_eq_bigSepL [0, 1] (by decide) (by decide), bigSepL_cons_cons, bigSepL_singleton]
  rfl

/-- Where an index of the slot lies in the halves. -/
def inHalf (x : S1x256x1024.Idx) : S1x128x1024.Idx := fun a => match a with
  | ⟨0, _⟩ => ⟨(x 0).val, (x 0).isLt⟩
  | ⟨1, _⟩ => ⟨(x 1).val % 128, Nat.mod_lt _ (by decide)⟩
  | ⟨2, _⟩ => ⟨(x 2).val, (x 2).isLt⟩

theorem emb_halves (x : S1x256x1024.Idx) (t : Fin 2) (ht : (x 1).val / 128 = t.val) {inb} :
    (Rect.unit (s := S8x256x1024) ![5, 0, 0] S1x256x1024.size inb).emb x = (Rect.unit (s := S8x256x1024) (halfOff t) S1x128x1024.size (halfInb t)).emb (inHalf x) :=
  funext fun a => Fin.ext <| by
    rw [Rect.emb_apply, Rect.emb_apply]
    match t, a with
    | ⟨0, _⟩, ⟨0, _⟩ => rfl
    | ⟨0, _⟩, ⟨2, _⟩ => rfl
    | ⟨1, _⟩, ⟨0, _⟩ => rfl
    | ⟨1, _⟩, ⟨2, _⟩ => rfl
    | ⟨0, _⟩, ⟨1, _⟩ =>
      have ht' : (x 1).val / 128 = 0 := ht
      show 0 + 1 * (x 1).val = 0 + 1 * ((x 1).val % 128)
      omega
    | ⟨1, _⟩, ⟨1, _⟩ =>
      have ht' : (x 1).val / 128 = 1 := ht
      show 0 + 1 * (x 1).val = 128 + 1 * ((x 1).val % 128)
      omega

/-- Reading the whole slot of the last message. -/
theorem both_load {α : Type} {Q : α → sProp 𝕄} {inb : ∀ a, (![5, 0, 0] : Fin 3 → ℕ) a + S1x256x1024.size a ≤ S8x256x1024.size a}
    {hl : rM.view.LoadsAt (Rect.unit (s := S8x256x1024) ![5, 0, 0] S1x256x1024.size inb).toLoadRect} {kk : (S1x256x1024.Idx → Elt F .bf16) → Prog (TpuEff nD τ sig (Elt F) Λ₀ .tc) α} :
    iprop(came I 5 c ∗ came I 7 c) ⊢ iprop(((came I 5 c ∗ came I 7 c) -∗ wpd c (kk (stack (sent5 I (pb c)) (sent7 I (pb c)))) Q)
      -∗ wpd c (.op (.load rM (Rect.unit (s := S8x256x1024) ![5, 0, 0] S1x256x1024.size inb).toLoadRect hl) kk) Q) := by
  have h5 : came I 5 c = iprop(held c rM ![5, 0, 0] S1x128x1024.size (halfInb 0) (sent5 I (pb c)) ∗ semVal (rCell 5 c) 0) := rfl
  have h7 : came I 7 c = iprop(held c rM ![5, 128, 0] S1x128x1024.size (halfInb 1) (sent7 I (pb c)) ∗ semVal (rCell 7 c) 0) := rfl
  have hj := held_join (F := F) c rM halfOff (fun _ => S1x128x1024.size) halfInb halfApart (S := bothSet c) rfl (halves I c)
  have hs := fun f => held_split (F := F) c rM halfOff (fun _ => S1x128x1024.size) halfInb halfApart (S := bothSet c) rfl f
  rw [h5, h7]
  iintro ⟨⟨Ha, Hza⟩, Hb, Hzb⟩ Hk
  ihave H := (Entails.of_eq (halves_split I c).symm) $$ [Ha Hb]
  · isplitl [Ha]; · iexact Ha
    iexact Hb
  ihave H := hj $$ H
  icases H with ⟨%f, %hf, H⟩
  have hrow : ∀ x : S1x256x1024.Idx, (x 1).val / 128 < 2 := fun x => by
    have h : (x 1).val < 256 := (x 1).isLt
    omega
  have hsub : (rM.access (Rect.unit (s := S8x256x1024) ![5, 0, 0] S1x256x1024.size inb)).set ⊆ bothSet c := fun i hi => by
    obtain ⟨x, -, rfl⟩ := Finset.mem_map.1 hi
    have e : (rM.access (Rect.unit (s := S8x256x1024) ![5, 0, 0] S1x256x1024.size inb)).emb x
        = (rM.access (Rect.unit (s := S8x256x1024) (halfOff ⟨_, hrow x⟩) S1x128x1024.size (halfInb ⟨_, hrow x⟩))).emb (inHalf x) :=
      congrArg rM.view.emb (emb_halves x ⟨_, hrow x⟩ rfl)
    exact Finset.mem_biUnion.2 ⟨⟨_, hrow x⟩, Finset.mem_univ _, e ▸ View.emb_mem_set _ _⟩
  have hr : (rM.access (Rect.unit (s := S8x256x1024) ![5, 0, 0] S1x256x1024.size inb)).read (Elt F) f = stack (sent5 I (pb c)) (sent7 I (pb c)) := by
    funext x
    have h := congrFun (hf ⟨_, hrow x⟩) (inHalf x)
    have e : (rM.access (Rect.unit (s := S8x256x1024) ![5, 0, 0] S1x256x1024.size inb)).read (Elt F) f x
        = (rM.access (Rect.unit (s := S8x256x1024) (halfOff ⟨_, hrow x⟩) S1x128x1024.size (halfInb ⟨_, hrow x⟩))).read (Elt F) f (inHalf x) := by
      show rM.view.read (Elt F) f ((Rect.unit (s := S8x256x1024) ![5, 0, 0] S1x256x1024.size inb).emb x) = rM.view.read (Elt F) f _
      exact congrArg _ (emb_halves x ⟨_, hrow x⟩ rfl)
    rw [e, h]
    have hx : (x 1).val < 256 := (x 1).isLt
    unfold stack
    by_cases hlt : (x 1).val < 128
    · rw [if_pos hlt, show (⟨(x 1).val / 128, hrow x⟩ : Fin 2) = 0 from Fin.ext (Nat.div_eq_of_lt hlt)]
      rfl
    · rw [if_neg hlt, show (⟨(x 1).val / 128, hrow x⟩ : Fin 2) = 1 from Fin.ext (by show (x 1).val / 128 = 1; omega)]
      rfl
  iapply (wp_load_rect 𝒱₀ (c : Thread nD τ) none Set.univ (m := rM) (r := Rect.unit (s := S8x256x1024) ![5, 0, 0] S1x256x1024.size inb) (hl := hl) (k := kk) hsub) $$ [H]
  · iexact H
  rw [hr]
  iintro H
  ihave H := (hs f) $$ H
  simp only [hf]
  ihave H := (Entails.of_eq (halves_split I c)) $$ H
  icases H with ⟨Ha, Hb⟩
  iapply Hk
  isplitl [Ha Hza]
  · isplitl [Ha]; · iexact Ha
    iexact Hza
  isplitl [Hb]; · iexact Hb
  iexact Hzb

/-! ## The whole run -/

/-- The output's row blocks. -/
def outs (A B C : FVec F S256x1024 .f32) (D E : FVec F S128x1024 .f32) : sProp 𝕄 :=
  iprop(outLG c A ∗ outHG c B ∗ outLK c C ∗ outHT c D ∗ outHB c E)

/-- All eight transfers not staged; their messages to come; staged and gone; come. -/
def sends : sProp 𝕄 := iprop(toSend (F := F) 0 c ∗ toSend (F := F) 1 c ∗ toSend (F := F) 2 c ∗ toSend (F := F) 3 c ∗ toSend (F := F) 4 c ∗ toSend (F := F) 5 c ∗ toSend (F := F) 6 c ∗ toSend (F := F) 7 c)
def comings : sProp 𝕄 := iprop(toCome (F := F) 0 c ∗ toCome (F := F) 1 c ∗ toCome (F := F) 2 c ∗ toCome (F := F) 3 c ∗ toCome (F := F) 4 c ∗ toCome (F := F) 5 c ∗ toCome (F := F) 6 c ∗ toCome (F := F) 7 c)
def allGone : sProp 𝕄 := iprop(gone (F := F) 0 c ∗ gone (F := F) 1 c ∗ gone (F := F) 2 c ∗ gone (F := F) 3 c ∗ gone (F := F) 4 c ∗ gone (F := F) 5 c ∗ gone (F := F) 6 c ∗ gone (F := F) 7 c)
def allCame : sProp 𝕄 := iprop(came I 0 c ∗ came I 1 c ∗ came I 2 c ∗ came I 3 c ∗ came I 4 c ∗ came I 5 c ∗ came I 6 c ∗ came I 7 c)

/-- What the kernel starts with on a device: the landing slots to hand over, the barrier's rights, its debts, its buffers. -/
def before (A B C : FVec F S256x1024 .f32) (D E : FVec F S128x1024 .f32) (X : FVec F S1024x1024 .bf16) : sProp 𝕄 :=
  iprop((handOver (F := F) true (pa c) ∗ handOver (F := F) false (pb c) ∗ dutyTok ER (barCell (pa c)) 0 true ∗ dutyTok ER (barCell (pb c)) 0 false
      ∗ cred (tallyAt (barCell c) () 2) ∗ atPos ER (barCell c) 0 ∅ 0 ∗ owing c (owed₀ c)) ∗ sends c ∗ comings c ∗ inputs I c ∗ outs c A B C D E ∗ acts c X)

/-- What it ends with. -/
def after : sProp 𝕄 :=
  iprop(semVal (barCell c) 0 ∗ owing c 0 ∗ allGone (F := F) c ∗ allCame I c ∗ inputs I c ∗ outs c (outA I c) (outB I c) (outC I c) (outD I c) (outE I c) ∗ acts c (I c).rows)

variable (h0 : xM.IsWhole) (h1 : qM.IsWhole) (h2 : oM.IsWhole) (h3 : kM.IsWhole) (h4 : vM.IsWhole) (h5 : outM.IsWhole) (h6 : sM.IsWhole) (h7 : rM.IsWhole)
  (h8 : hM.IsWhole)

theorem run_body {Q : PUnit → sProp 𝕄} {A B C D E X} :
    iprop(records I K ∗ before I c A B C D E X)
      ⊢ iprop((after I c -∗ Q ⟨⟩) -∗ wpd c (cc0_body xM h0 qM h1 oM h2 kM h3 vM h4 outM h5 sM h6 rM h7 hM h8 cc0_scratch3 cc0_scratch4) Q) := by
  rw [cc0_body_eq_skeleton]; unfold cc0_body_skel
  simp only [Prog.lift, Prog.bind_op, Prog.bind_ret, Prog.pure_eq_ret]
  rw [k0_part29_eq_skeleton]; unfold k0_part29_skel
  simp only [Prog.lift, Prog.bind_op, Prog.bind_ret, Prog.pure_eq_ret, Prog.bind_assoc]
  unfold before sends comings outs wpd
  iintro ⟨#Hr, ⟨Hta, Htb, Hda, Hdb, Hcb, Hab, HO⟩, ⟨HS0, HS1, HS2, HS3, HS4, HS5, HS6, HS7⟩, ⟨HC0, HC1, HC2, HC3, HC4, HC5, HC6, HC7⟩, Hin, ⟨Hlg, Hhg, Hlk, Hht, Hhb⟩, Hh⟩ Hk
  -- part 1
  rw [wp_bind]
  iapply (run1 I K c h0 h1 h2 h3 h4 h5 h6 h7 h8) $$ [Hta Htb Hda Hdb Hcb Hab HO Hin]
  · isplitr; · iexact Hr
    isplitl [Hta]; · iexact Hta
    isplitl [Htb]; · iexact Htb
    isplitl [Hda]; · iexact Hda
    isplitl [Hdb]; · iexact Hdb
    isplitl [Hcb]; · iexact Hcb
    isplitl [Hab]; · iexact Hab
    isplitl [HO]; · iexact HO
    iexact Hin
  iintro %v5 %v7 %v8 %v9 ⟨Hf, Ht, Hzb, HO, Hin⟩
  try dsimp only
  ihave Hf := (Entails.of_eq (show handOver (F := F) false c = iprop(landAny 1 (peer 1 c) ∗ landAny 2 (peer 2 c) ∗ landAny 5 (peer 5 c) ∗ landAny 7 (peer 7 c)) from rfl)) $$ Hf
  ihave Ht := (Entails.of_eq (show handOver (F := F) true c = iprop(landAny 0 (peer 0 c) ∗ landAny 3 (peer 3 c) ∗ landAny 4 (peer 4 c) ∗ landAny 6 (peer 6 c)) from rfl)) $$ Ht
  icases Hf with ⟨HL1, HL2, HL5, HL7⟩
  icases Ht with ⟨HL0, HL3, HL4, HL6⟩
  -- part 2
  rw [wp_bind]
  iapply (run2 I c h0 h1 h2 h3 h4 h5 h6 h7 h8 v5 v7) $$ [Hh]
  · iexact Hh
  iintro %v34 %v36 %v38 Hh
  try dsimp only
  -- parts 3, 4
  rw [k0_part3_eq_skeleton]; unfold k0_part3_skel
  simp only [Prog.pure_eq_ret, Prog.bind_ret]
  rw [k0_part4_eq_skeleton]; unfold k0_part4_skel
  simp only [Prog.pure_eq_ret, Prog.bind_ret]
  -- part 5
  rw [wp_bind]
  iapply (run5 I c h0 h1 h2 h3 h4 h5 h6 h7 h8 v8 v38 rfl rfl) $$ [Hlg HS0]
  · isplitl [Hlg]; · iexact Hlg
    iexact HS0
  iintro ⟨Hlg, HS0⟩
  try dsimp only
  -- part 6
  rw [wp_bind]
  iapply (run6 I K c h0 h1 h2 h3 h4 h5 h6 h7 h8 v7) $$ [HS0 HL0 HO Hh]
  · isplitr; · iexact Hr
    isplitl [HS0]; · iexact HS0
    isplitl [HL0]; · iexact HL0
    isplitl [HO]; · iexact HO
    iexact Hh
  iintro %v203 ⟨HS0, HO, Hh⟩
  try dsimp only
  -- parts 7, 8
  rw [k0_part7_eq_skeleton]; unfold k0_part7_skel
  simp only [Prog.pure_eq_ret, Prog.bind_ret]
  rw [k0_part8_eq_skeleton]; unfold k0_part8_skel
  simp only [Prog.pure_eq_ret, Prog.bind_ret]
  -- part 9
  rw [wp_bind]
  iapply (run9 I K c h0 h1 h2 h3 h4 h5 h6 h7 h8 v5 v9 v203 rfl rfl) $$ [Hhg HS1 HL1 HO Hh]
  · isplitr; · iexact Hr
    isplitl [Hhg]; · iexact Hhg
    isplitl [HS1]; · iexact HS1
    isplitl [HL1]; · iexact HL1
    isplitl [HO]; · iexact HO
    iexact Hh
  iintro %v367 ⟨Hhg, HS1, HO, Hh⟩
  try dsimp only
  -- parts 10, 11, 12
  rw [k0_part10_eq_skeleton]; unfold k0_part10_skel
  simp only [Prog.pure_eq_ret, Prog.bind_ret]
  rw [k0_part11_eq_skeleton]; unfold k0_part11_skel
  simp only [Prog.pure_eq_ret, Prog.bind_ret]
  rw [k0_part12_eq_skeleton]; unfold k0_part12_skel
  simp only [Prog.pure_eq_ret, Prog.bind_ret]
  -- part 13
  rw [wp_bind]
  iapply (run13 I K c h0 h1 h2 h3 h4 h5 h6 h7 h8 v8 v34 v367 rfl) $$ [Hlk HS0 HC0 HO]
  · isplitr; · iexact Hr
    isplitl [Hlk]; · iexact Hlk
    isplitl [HS0]; · iexact HS0
    isplitl [HC0]; · iexact HC0
    iexact HO
  iintro ⟨Hlk, HS0, HC0, HO⟩
  try dsimp only
  -- part 14
  rw [wp_bind]
  iapply (run14 I K c h0 h1 h2 h3 h4 h5 h6 h7 h8 v7 v9) $$ [Hlk HS2 HL2 HO Hh]
  · isplitr; · iexact Hr
    isplitl [Hlk]; · iexact Hlk
    isplitl [HS2]; · iexact HS2
    isplitl [HL2]; · iexact HL2
    isplitl [HO]; · iexact HO
    iexact Hh
  iintro %v564 ⟨Hlk, HS2, HO, Hh⟩
  try dsimp only
  -- parts 15, 16
  rw [k0_part15_eq_skeleton]; unfold k0_part15_skel
  simp only [Prog.pure_eq_ret, Prog.bind_ret]
  rw [k0_part16_eq_skeleton]; unfold k0_part16_skel
  simp only [Prog.pure_eq_ret, Prog.bind_ret]
  -- part 17
  rw [wp_bind]
  iapply (run17 I c h0 h1 h2 h3 h4 h5 h6 h7 h8 v564 rfl) $$ [Hht]
  · iexact Hht
  iintro Hht
  try dsimp only
  -- part 18
  rw [wp_bind]
  iapply (run18 I K c h0 h1 h2 h3 h4 h5 h6 h7 h8 v9 v36) $$ [Hht HS1 HC1 HS3 HO]
  · isplitr; · iexact Hr
    isplitl [Hht]; · iexact Hht
    isplitl [HS1]; · iexact HS1
    isplitl [HC1]; · iexact HC1
    isplitl [HS3]; · iexact HS3
    iexact HO
  iintro ⟨Hht, HS1, HC1, HS3, HO⟩
  try dsimp only
  -- part 19
  rw [wp_bind]
  iapply (run19 I K c h0 h1 h2 h3 h4 h5 h6 h7 h8 v7 v8) $$ [HS3 HL3 HO Hh]
  · isplitr; · iexact Hr
    isplitl [HS3]; · iexact HS3
    isplitl [HL3]; · iexact HL3
    isplitl [HO]; · iexact HO
    iexact Hh
  iintro %v750 ⟨HS3, HO, Hh⟩
  try dsimp only
  -- parts 20, 21
  rw [k0_part20_eq_skeleton]; unfold k0_part20_skel
  simp only [Prog.pure_eq_ret, Prog.bind_ret]
  rw [k0_part21_eq_skeleton]; unfold k0_part21_skel
  simp only [Prog.pure_eq_ret, Prog.bind_ret]
  -- part 22
  rw [wp_bind]
  iapply (run22 I c h0 h1 h2 h3 h4 h5 h6 h7 h8 v36 v750 rfl) $$ [Hhb HC1 HS6]
  · isplitl [Hhb]; · iexact Hhb
    isplitl [HC1]; · iexact HC1
    iexact HS6
  iintro ⟨Hhb, HC1, HS6⟩
  try dsimp only
  -- part 23
  rw [wp_bind]
  iapply (run23 I K c h0 h1 h2 h3 h4 h5 h6 h7 h8 v8 v9 v34 rfl) $$ [HS6 HL6 HS2 HC2 HO]
  · isplitr; · iexact Hr
    isplitl [HS6]; · iexact HS6
    isplitl [HL6]; · iexact HL6
    isplitl [HS2]; · iexact HS2
    isplitl [HC2]; · iexact HC2
    iexact HO
  iintro %v935 ⟨HS6, HS2, HC2, HO⟩
  try dsimp only
  -- part 24
  rw [wp_bind]
  iapply (run24 I K c h0 h1 h2 h3 h4 h5 h6 h7 h8 v8 v935) $$ [Hlk HC2 HS4 HL4 HS3 HO]
  · isplitr; · iexact Hr
    isplitl [Hlk]; · iexact Hlk
    isplitl [HC2]; · iexact HC2
    isplitl [HS4]; · iexact HS4
    isplitl [HL4]; · iexact HL4
    isplitl [HS3]; · iexact HS3
    iexact HO
  iintro ⟨Hlk, HC2, HS4, HS3, HO⟩
  try dsimp only
  -- part 25
  rw [wp_bind]
  iapply (run25 I K c h0 h1 h2 h3 h4 h5 h6 h7 h8 v8 v9 v36) $$ [Hht HC3 HS5 HO]
  · isplitr; · iexact Hr
    isplitl [Hht]; · iexact Hht
    isplitl [HC3]; · iexact HC3
    isplitl [HS5]; · iexact HS5
    iexact HO
  iintro ⟨Hht, HC3, HS5, HO⟩
  try dsimp only
  -- part 26
  rw [wp_bind]
  iapply (run26 I K c h0 h1 h2 h3 h4 h5 h6 h7 h8 v8 v36) $$ [HS5 HL5 HS6 HC6 Hhb HO]
  · isplitr; · iexact Hr
    isplitl [HS5]; · iexact HS5
    isplitl [HL5]; · iexact HL5
    isplitl [HS6]; · iexact HS6
    isplitl [HC6]; · iexact HC6
    isplitl [Hhb]; · iexact Hhb
    iexact HO
  iintro ⟨HS5, HS6, HC6, Hhb, HO⟩
  try dsimp only
  -- part 27
  rw [wp_bind]
  iapply (run27 I K c h0 h1 h2 h3 h4 h5 h6 h7 h8 v8 v9 rfl) $$ [HS7 HL7 HS4 HO]
  · isplitr; · iexact Hr
    isplitl [HS7]; · iexact HS7
    isplitl [HL7]; · iexact HL7
    isplitl [HS4]; · iexact HS4
    iexact HO
  iintro ⟨HS7, HS4, HO⟩
  try dsimp only
  -- part 28
  rw [wp_bind]
  iapply (run28 I K c h0 h1 h2 h3 h4 h5 h6 h7 h8 v5 v9) $$ [HC4 Hlg HS5 HC5 HO]
  · isplitr; · iexact Hr
    isplitl [HC4]; · iexact HC4
    isplitl [Hlg]; · iexact Hlg
    isplitl [HS5]; · iexact HS5
    isplitl [HC5]; · iexact HC5
    iexact HO
  iintro ⟨HC4, Hlg, HS5, HC5, HO⟩
  try dsimp only
  -- the last message out and in, and the high batch given away back in place
  iapply (back I K c 7 [] (by decide) rfl credS_half) $$ [HS7 HO]
  · isplitr; · iexact Hr
    isplitl [HS7]; · iexact HS7
    iexact HO
  iintro ⟨HS7, HO⟩
  iapply (come I K c 7 [] (by decide) rfl credR_half) $$ [HC7 HO]
  · isplitr; · iexact Hr
    isplitl [HC7]; · iexact HC7
    iexact HO
  iintro ⟨HC7, HO⟩
  iapply (both_load I c) $$ [HC5 HC7]
  · isplitl [HC5]; · iexact HC5
    iexact HC7
  iintro ⟨HC5, HC7⟩
  unfold outHG
  iapply (held_load c outM (off10_eq c)) $$ [Hhg]
  · iexact Hhg
  iintro Hhg
  iapply (held_store c outM (off10_eq c)) $$ [Hhg]
  · iexact Hhg
  iintro Hhg
  iapply wp_done
  iapply Hk
  unfold after allGone allCame outs
  isplitl [Hzb]; · iexact Hzb
  isplitl [HO]; · iexact HO
  isplitl [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [HC0 HC1 HC2 HC3 HC4 HC5 HC6 HC7]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    iexact HC7
  isplitl [Hin]; · iexact Hin
  isplitl [Hlg Hhg Hlk Hht Hhb]
  · isplitl [Hlg]; · iexact Hlg
    isplitl [Hhg]; · unfold outHG; iexact Hhg
    isplitl [Hlk]; · iexact Hlk
    isplitl [Hht]; · iexact Hht
    iexact Hhb
  iexact Hh

end Cert.HeadShard
-- ==== Proof.Storage.lean ====
/-
# Whole buffers and their boxes

A buffer that is held whole is its boxes held one by one, and the other way round: the staging and landing buffers into the
transfers' slots, the output into its five row blocks.
-/
module

public import proofs.«01_k».proof.Proof.Whole

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Inputs and activations: one box each -/

section One

variable {s : Shape} {e : EltTy} (c : Dev nD) (m : Memref sig .tc .vmem s e) {off : Fin s.rank → ℕ} (inb : ∀ a, off a + s.size a ≤ s.size a)

theorem set_one (hm : m.view.set = Finset.univ) (h : off = fun _ => 0) : (m.access (Rect.unit off s.size inb)).set = Finset.univ := by
  subst h
  rw [← hm]
  show (m.view.slice (Rect.whole s)).set = _
  rw [View.set_slice, Rect.set_whole]
  rfl

theorem into_one (hm : m.view.set = Finset.univ) (h : off = fun _ => 0) (f : Buf (Elt F) (m.view.loc (c : Thread nD τ))) :
    (m.view.loc (c : Thread nD τ) ↦{fullShare} f : sProp 𝕄) ⊢ held c m off s.size inb ((m.access (Rect.unit off s.size inb)).read (Elt F) f) := by
  unfold held
  rw [set_one m inb hm h]
  iintro H
  iexists f
  isplitr; · ipureintro; rfl
  iexact H

theorem outof_one (hm : m.view.set = Finset.univ) (h : off = fun _ => 0) (X : Shape.Idx ⟨s.rank, s.size⟩ → Elt F e) :
    held c m off s.size inb X ⊢ (iprop(∃ f : Buf (Elt F) (m.view.loc (c : Thread nD τ)), ⌜(m.access (Rect.unit off s.size inb)).read (Elt F) f = X⌝
      ∗ (m.view.loc (c : Thread nD τ) ↦{fullShare} f)) : sProp 𝕄) := by
  unfold held
  rw [set_one m inb hm h]

end One

/-! ## The staging and landing buffers -/

/-- Every element of the staging buffer's shape is in one of the nine boxes. -/
theorem boxes_cover (i : S8x256x1024.Idx) : ∃ t, i ∈ (Rect.unit (s := S8x256x1024) (boxOff t) (boxSize t) (boxInb t)).set := by
  have h0 : (i 0).val < 8 := (i 0).isLt
  have h1 : (i 1).val < 256 := (i 1).isLt
  have h2 : (i 2).val < 1024 := (i 2).isLt
  have key : ∀ t : Fin 9, (boxOff t 0 ≤ (i 0).val ∧ (i 0).val < boxOff t 0 + boxSize t 0) → (boxOff t 1 ≤ (i 1).val ∧ (i 1).val < boxOff t 1 + boxSize t 1)
      → (boxOff t 2 ≤ (i 2).val ∧ (i 2).val < boxOff t 2 + boxSize t 2) → i ∈ (Rect.unit (s := S8x256x1024) (boxOff t) (boxSize t) (boxInb t)).set :=
    fun t a0 a1 a2 => Rect.mem_set_unit.2 fun a => match a with
      | ⟨0, _⟩ => a0
      | ⟨1, _⟩ => a1
      | ⟨2, _⟩ => a2
  have third : ∀ t : Fin 9, boxOff t 2 = 0 ∧ boxSize t 2 = 1024 := by decide
  have t2 : ∀ t : Fin 9, boxOff t 2 ≤ (i 2).val ∧ (i 2).val < boxOff t 2 + boxSize t 2 := fun t => by
    obtain ⟨e, e'⟩ := third t
    rw [e, e']; omega
  have go : ∀ (t : Fin 9) (a b n m : ℕ), boxOff t 0 = a → boxSize t 0 = n → boxOff t 1 = b → boxSize t 1 = m → a ≤ (i 0).val ∧ (i 0).val < a + n → b ≤ (i 1).val ∧ (i 1).val < b + m
      → ∃ t, i ∈ (Rect.unit (s := S8x256x1024) (boxOff t) (boxSize t) (boxInb t)).set := fun t a b n m ha hn hb hm p q => ⟨t, key t (by rw [ha, hn]; exact p) (by rw [hb, hm]; exact q) (t2 t)⟩
  by_cases e6 : 6 ≤ (i 0).val
  · exact go 8 6 0 2 256 rfl rfl rfl rfl (by omega) (by omega)
  by_cases e3 : (i 0).val = 3
  · by_cases hl : (i 1).val < 128
    · exact go 3 3 0 1 128 rfl rfl rfl rfl (by omega) (by omega)
    · exact go 6 3 128 1 128 rfl rfl rfl rfl (by omega) (by omega)
  by_cases e5 : (i 0).val = 5
  · by_cases hl : (i 1).val < 128
    · exact go 5 5 0 1 128 rfl rfl rfl rfl (by omega) (by omega)
    · exact go 7 5 128 1 128 rfl rfl rfl rfl (by omega) (by omega)
  by_cases e0 : (i 0).val = 0
  · exact go 0 0 0 1 256 rfl rfl rfl rfl (by omega) (by omega)
  by_cases e1 : (i 0).val = 1
  · exact go 1 1 0 1 256 rfl rfl rfl rfl (by omega) (by omega)
  by_cases e2 : (i 0).val = 2
  · exact go 2 2 0 1 256 rfl rfl rfl rfl (by omega) (by omega)
  · exact go 4 4 0 1 256 rfl rfl rfl rfl (by omega) (by omega)

/-- The nine boxes one by one; the eight slots one by one. -/
theorem bigSep_nine (P : Fin 9 → sProp 𝕄) : bigSep Finset.univ P = iprop(P 0 ∗ P 1 ∗ P 2 ∗ P 3 ∗ P 4 ∗ P 5 ∗ P 6 ∗ P 7 ∗ P 8) :=
  bigSep_univ_eq_bigSepL [0, 1, 2, 3, 4, 5, 6, 7, 8] (by decide) (by decide) P
theorem bigSep_eight (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P

theorem nine_eight (P : Fin 9 → sProp 𝕄) : bigSep Finset.univ P ⊢ iprop((bigSep Finset.univ fun k : Fin 8 => P k.castSucc) ∗ P 8) := by
  rw [bigSep_nine, show (bigSep Finset.univ fun k : Fin 8 => P k.castSucc) = iprop(P 0 ∗ P 1 ∗ P 2 ∗ P 3 ∗ P 4 ∗ P 5 ∗ P 6 ∗ P 7) from (bigSep_eight _).trans rfl]
  iintro ⟨H0, H1, H2, H3, H4, H5, H6, H7, H8⟩
  isplitr [H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact H8

theorem eight_nine (P : Fin 9 → sProp 𝕄) : iprop((bigSep Finset.univ fun k : Fin 8 => P k.castSucc) ∗ P 8) ⊢ bigSep Finset.univ P := by
  rw [bigSep_nine, show (bigSep Finset.univ fun k : Fin 8 => P k.castSucc) = iprop(P 0 ∗ P 1 ∗ P 2 ∗ P 3 ∗ P 4 ∗ P 5 ∗ P 6 ∗ P 7) from (bigSep_eight _).trans rfl]
  iintro ⟨⟨H0, H1, H2, H3, H4, H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

section Slots

variable (c : Dev nD) (m : Memref sig .tc .vmem S8x256x1024 .bf16)

theorem boxes_univ (hm : m.view.set = Finset.univ) :
    (Finset.univ : Finset (Idx (m.view.loc (c : Thread nD τ)))) = Finset.univ.biUnion (boxSet c m boxOff boxSize boxInb) :=
  (Finset.eq_univ_iff_forall.2 fun i => by
    obtain ⟨x, -, rfl⟩ := Finset.mem_map.1 (hm ▸ Finset.mem_univ i : i ∈ m.view.set)
    obtain ⟨t, ht⟩ := boxes_cover x
    refine Finset.mem_biUnion.2 ⟨t, Finset.mem_univ _, ?_⟩
    show m.view.emb x ∈ (m.view.slice (Rect.unit (s := S8x256x1024) (boxOff t) (boxSize t) (boxInb t))).set
    rw [View.set_slice]
    exact Finset.mem_map_of_mem _ ht).symm

/-- A device's slots and the box none of them uses, at some contents. -/
theorem slots_split (hm : m.view.set = Finset.univ) (f : Buf (Elt F) (m.view.loc (c : Thread nD τ))) :
    (m.view.loc (c : Thread nD τ) ↦{fullShare} f : sProp 𝕄)
      ⊢ iprop((bigSep Finset.univ fun k : Fin 8 => heldAny (F := F) c m (slotOff k) (slotSize k) (slotInb k)) ∗ heldAny (F := F) c m (boxOff 8) (boxSize 8) (boxInb 8)) := by
  have h := held_split (F := F) c m boxOff boxSize boxInb boxApart (boxes_univ c m hm) f
  have h' : (bigSep Finset.univ fun t => held c m (boxOff t) (boxSize t) (boxInb t) ((m.access (Rect.unit (boxOff t) (boxSize t) (boxInb t))).read (Elt F) f))
      ⊢ (bigSep Finset.univ fun t : Fin 9 => heldAny (F := F) c m (boxOff t) (boxSize t) (boxInb t) : sProp 𝕄) := bigSep_imp fun t _ => held_any c m _ _ _ _
  exact (h.trans h').trans (nine_eight fun t => heldAny (F := F) c m (boxOff t) (boxSize t) (boxInb t))

/-- Back into a whole buffer. -/
theorem slots_join (hm : m.view.set = Finset.univ) :
    (iprop((bigSep Finset.univ fun k : Fin 8 => heldAny (F := F) c m (slotOff k) (slotSize k) (slotInb k)) ∗ heldAny (F := F) c m (boxOff 8) (boxSize 8) (boxInb 8)) : sProp 𝕄)
      ⊢ iprop(∃ f : Buf (Elt F) (m.view.loc (c : Thread nD τ)), (m.view.loc (c : Thread nD τ) ↦{fullShare} f)) := by
  refine (eight_nine fun t => heldAny (F := F) c m (boxOff t) (boxSize t) (boxInb t)).trans ?_
  haveI : ∀ t : Fin 9, Nonempty (Shape.Idx ⟨3, boxSize t⟩ → Elt F .bf16) := fun _ => ⟨fun _ => Scalar.ofBits .bf16 0#16⟩
  have hx := BI.bigSep_exists_pi (Finset.univ : Finset (Fin 9)) (fun t (X : Shape.Idx ⟨3, boxSize t⟩ → Elt F .bf16) => held c m (boxOff t) (boxSize t) (boxInb t) X)
  unfold heldAny
  iintro H
  ihave H := hx $$ H
  icases H with ⟨%X, H⟩
  ihave H := (held_join (F := F) c m boxOff boxSize boxInb boxApart (boxes_univ c m hm) X) $$ H
  icases H with ⟨%f, %_, H⟩
  iexists f
  iexact H

end Slots

/-! ## The output's row blocks -/

def rowOff (c : Dev nD) : Fin 5 → Fin 2 → ℕ := ![![rLowGive c, 0], ![rHighGive c, 0], ![rLowKeep c, 0], ![rHighKeep c, 0], ![rHighKeep c + 128, 0]]
def rowSize : Fin 5 → Fin 2 → ℕ := ![S256x1024.size, S256x1024.size, S256x1024.size, S128x1024.size, S128x1024.size]
theorem rowInb (c : Dev nD) : ∀ t a, rowOff c t a + rowSize t a ≤ S1024x1024.size a := by revert c; decide
theorem rowApart (c : Dev nD) : ∀ t t' : Fin 5, t ≠ t' → ∃ a, rowOff c t a + rowSize t a ≤ rowOff c t' a ∨ rowOff c t' a + rowSize t' a ≤ rowOff c t a := by
  revert c; decide

/-- Which block a row is in. -/
def blockOf (c : Dev nD) (r : ℕ) : Fin 5 :=
  if r / 256 = rLowGive c / 256 then 0 else if r / 256 = rHighGive c / 256 then 1 else if r / 256 = rLowKeep c / 256 then 2 else if r % 256 < 128 then 3 else 4

theorem blockOf_spec (c : Dev nD) (r : ℕ) (hr : r < 1024) : rowOff c (blockOf c r) 0 ≤ r ∧ r < rowOff c (blockOf c r) 0 + rowSize (blockOf c r) 0 := by
  have hk : r / 256 < 4 := by omega
  have sp : r = 256 * (r / 256) + r % 256 := by omega
  have hm : r % 256 < 256 := Nat.mod_lt _ (by decide)
  have four : (rLowGive c = 256 * (rLowGive c / 256) ∧ rHighGive c = 256 * (rHighGive c / 256)) ∧ (rLowKeep c = 256 * (rLowKeep c / 256) ∧ rHighKeep c = 256 * (rHighKeep c / 256))
      ∧ (∀ j : Fin 4, j.val = rLowGive c / 256 ∨ j.val = rHighGive c / 256 ∨ j.val = rLowKeep c / 256 ∨ j.val = rHighKeep c / 256) := by revert c; decide
  obtain ⟨⟨f1, f2⟩, ⟨f3, f4⟩, f5⟩ := four
  have f6 := f5 ⟨r / 256, hk⟩
  simp only at f6
  unfold blockOf
  split_ifs with a b d e
  · show rLowGive c ≤ r ∧ r < rLowGive c + 256; omega
  · show rHighGive c ≤ r ∧ r < rHighGive c + 256; omega
  · show rLowKeep c ≤ r ∧ r < rLowKeep c + 256; omega
  · show rHighKeep c ≤ r ∧ r < rHighKeep c + 128; omega
  · show rHighKeep c + 128 ≤ r ∧ r < rHighKeep c + 128 + 128; omega

/-- An index within the block its row is in. -/
def inBlock (c : Dev nD) (i : S1024x1024.Idx) : Shape.Idx ⟨2, rowSize (blockOf c (i 0).val)⟩ := fun a => match a with
  | ⟨0, _⟩ => ⟨(i 0).val - rowOff c (blockOf c (i 0).val) 0, by
      have := blockOf_spec c (i 0).val (i 0).isLt
      show _ < rowSize (blockOf c (i 0).val) 0
      omega⟩
  | ⟨1, _⟩ => ⟨(i 1).val, by
      have h : ∀ t : Fin 5, rowSize t 1 = 1024 := by decide
      show _ < rowSize (blockOf c (i 0).val) 1
      rw [h]; exact (i 1).isLt⟩

theorem emb_inBlock (c : Dev nD) (i : S1024x1024.Idx) :
    (Rect.unit (s := S1024x1024) (rowOff c (blockOf c (i 0).val)) (rowSize (blockOf c (i 0).val)) (rowInb c _)).emb (inBlock c i) = i :=
  funext fun a => Fin.ext <| by
    have h := blockOf_spec c (i 0).val (i 0).isLt
    have h1 : ∀ (c : Dev nD) (t : Fin 5), rowOff c t 1 = 0 := by decide
    rw [Rect.emb_apply]
    match a with
    | ⟨0, _⟩ =>
      show rowOff c (blockOf c (i 0).val) 0 + 1 * ((i 0).val - rowOff c (blockOf c (i 0).val) 0) = (i 0).val
      omega
    | ⟨1, _⟩ =>
      show rowOff c (blockOf c (i 0).val) 1 + 1 * (i 1).val = (i 1).val
      rw [h1]; omega

variable (I : Dev nD → Ins F)

/-- The five blocks' contents. -/
def rowsEnd (c : Dev nD) : (t : Fin 5) → (Shape.Idx ⟨2, rowSize t⟩ → Elt F .f32)
  | ⟨0, _⟩ => outA I c
  | ⟨1, _⟩ => outB I c
  | ⟨2, _⟩ => outC I c
  | ⟨3, _⟩ => outD I c
  | ⟨4, _⟩ => outE I c

/-- The output of device `c`. -/
def outAt (c : Dev nD) : S1024x1024.Idx → Elt F .f32 := fun i => rowsEnd I c (blockOf c (i 0).val) (inBlock c i)

theorem rows_univ (c : Dev nD) :
    (Finset.univ : Finset (Idx (outM.view.loc (c : Thread nD τ)))) = Finset.univ.biUnion (boxSet c outM (rowOff c) rowSize (rowInb c)) :=
  (Finset.eq_univ_iff_forall.2 fun i => Finset.mem_biUnion.2 ⟨blockOf c (i 0).val, Finset.mem_univ _, by
    have h : (Rect.unit (s := S1024x1024) (rowOff c (blockOf c (i 0).val)) (rowSize (blockOf c (i 0).val)) (rowInb c _)).emb (inBlock c i) = i := emb_inBlock c i
    have h' := View.emb_mem_set (outM.access (Rect.unit (s := S1024x1024) (rowOff c (blockOf c (i 0).val)) (rowSize (blockOf c (i 0).val)) (rowInb c _))) (inBlock c i)
    have e : (outM.access (Rect.unit (s := S1024x1024) (rowOff c (blockOf c (i 0).val)) (rowSize (blockOf c (i 0).val)) (rowInb c _))).emb (inBlock c i) = i := h
    rw [e] at h'
    exact h'⟩).symm

theorem rows_five (c : Dev nD) (X : (t : Fin 5) → (Shape.Idx ⟨2, rowSize t⟩ → Elt F .f32)) :
    (bigSep Finset.univ fun t => held c outM (rowOff c t) (rowSize t) (rowInb c t) (X t) : sProp 𝕄) = outs c (X 0) (X 1) (X 2) (X 3) (X 4) := by
  rw [bigSep_univ_eq_bigSepL [0, 1, 2, 3, 4] (by decide) (by decide)]
  simp only [bigSepL_cons_cons, bigSepL_singleton]
  rfl

theorem outs_split (c : Dev nD) (f : Buf (Elt F) (outM.view.loc (c : Thread nD τ))) :
    (outM.view.loc (c : Thread nD τ) ↦{fullShare} f : sProp 𝕄) ⊢ iprop(∃ A B C D E, outs c A B C D E) := by
  have h := held_split (F := F) c outM (rowOff c) rowSize (rowInb c) (rowApart c) (rows_univ c) f
  refine h.trans ((Entails.of_eq (rows_five c fun t => (outM.access (Rect.unit (s := S1024x1024) (rowOff c t) (rowSize t) (rowInb c t))).read (Elt F) f)).trans ?_)
  iintro H
  iexists _; iexists _; iexists _; iexists _; iexists _
  iexact H

theorem outs_join (c : Dev nD) :
    outs c (outA I c) (outB I c) (outC I c) (outD I c) (outE I c) ⊢ (outM.view.loc (c : Thread nD τ) ↦{fullShare} (outAt I c : Buf (Elt F) (outM.view.loc (c : Thread nD τ))) : sProp 𝕄) := by
  have h := held_join (F := F) c outM (rowOff c) rowSize (rowInb c) (rowApart c) (rows_univ c) (rowsEnd I c)
  refine (Entails.of_eq (rows_five c (rowsEnd I c)).symm).trans (h.trans ?_)
  iintro ⟨%f, %hf, H⟩
  have e : f = (outAt I c : Buf (Elt F) (outM.view.loc (c : Thread nD τ))) := funext fun i => by
    have h1 := congrFun (hf (blockOf c (i 0).val)) (inBlock c i)
    have h2 : (Rect.unit (s := S1024x1024) (rowOff c (blockOf c (i 0).val)) (rowSize (blockOf c (i 0).val)) (rowInb c _)).emb (inBlock c i) = i := emb_inBlock c i
    have h3 : (outM.access (Rect.unit (s := S1024x1024) (rowOff c (blockOf c (i 0).val)) (rowSize (blockOf c (i 0).val)) (rowInb c _))).read (Elt F) f (inBlock c i) = f i :=
      show f ((Rect.unit (s := S1024x1024) (rowOff c (blockOf c (i 0).val)) (rowSize (blockOf c (i 0).val)) (rowInb c _)).emb (inBlock c i)) = f i by rw [h2]
    exact h3.symm.trans h1
  subst e
  iexact H

end Cert.HeadShard
-- ==== Proof.Launch.lean ====
/-
# One device's kernel, as the pipeline calls it

The pipeline fetches the five inputs, runs the kernel once and writes the output back. Here: what the kernel finds and leaves
on every device, and that its run takes the one to the other.
-/
module

public import proofs.«01_k».proof.Proof.Storage

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Every device's inputs as fetched. -/
def ins (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  wk := (win0_3.blk (0 : Fin 1)).view.read (Elt F) ((s₀ m ρ).mem ((c : Thread nD τ).loc main_arg2))
  wv := (win0_4.blk (0 : Fin 1)).view.read (Elt F) ((s₀ m ρ).mem ((c : Thread nD τ).loc main_arg3))
  wo := (win0_2.blk (0 : Fin 1)).view.read (Elt F) ((s₀ m ρ).mem ((c : Thread nD τ).loc main_arg4))

/-! ## A device's rights -/

/-- The duties it pays: to its partners' barriers, to its own send cells, to its partners' receive cells. -/
def payToks (c : Dev nD) : sProp 𝕄 :=
  iprop((dutyTok ER (barCell (pa c)) 0 true ∗ dutyTok ER (barCell (pb c)) 0 false) ∗ (bigSep Finset.univ fun k : Fin 8 => dutyTok ER (sCell k c) 0 false)
    ∗ (bigSep Finset.univ fun k : Fin 8 => dutyTok ER (rCell k (peer k c)) 0 false))
/-- These and its places in its own cells' rounds. -/
def linear (c : Dev nD) : sProp 𝕄 :=
  iprop((bigSep Finset.univ fun i : CI => atPos ER (kcell (c, i)) 0 ∅ 0) ∗ payToks (F := F) c)
/-- What it may claim: its barrier's two units, its messages. -/
def claims (c : Dev nD) : sProp 𝕄 :=
  iprop(cred (tallyAt (barCell c) () 2) ∗ (bigSep Finset.univ fun k : Fin 8 => cred (tallyAt (rCell k c) () (amt k))))

def begins (c : Dev nD) : sProp 𝕄 := iprop((∃ K, records (ins m ρ) K) ∗ linear (F := F) c ∗ claims (F := F) c)

/-- The three buffers of its own, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(begins m ρ c ∗ scratch (F := F) c)
/-- After the kernel every one of the device's semaphores is out of use, at zero. -/
def Φ₁ (c : Dev nD) : sProp 𝕄 := iprop(scratch (F := F) c ∗ bigSep Finset.univ fun i : CI => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).wq
    | ⟨2, _⟩ => (ins m ρ c).wo
    | ⟨3, _⟩ => (ins m ρ c).wk
    | ⟨4, _⟩ => (ins m ρ c).wv
    | ⟨5, _⟩ => outAt (ins m ρ) c
  Φ t := match t with
    | ⟨0, _⟩ => Φ₀ m ρ c
    | ⟨_ + 1, _⟩ => Φ₁ (F := F) c
  q _ := fullShare
  owed t := match t with
    | ⟨0, _⟩ => owed₀ c
    | ⟨_ + 1, _⟩ => 0

abbrev t₀ : Fin cfg0.N := t0_0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-! ## The sums over cells and transfers, in the forms the run takes -/

theorem cells_split (P : CI → sProp 𝕄) :
    bigSep Finset.univ P = iprop(P (.inl ()) ∗ (bigSep Finset.univ fun k : Fin 8 => P (.inr (.inl k))) ∗ (bigSep Finset.univ fun k : Fin 8 => P (.inr (.inr k)))) := by
  rw [bigSep_univ_sum, bigSep_univ_sum, bigSep_univ_eq_bigSepL [()] (by decide) (by decide), bigSepL_singleton]
  rfl

/-- The transfers' staging slots and rights, together. -/
theorem sends_intro (c : Dev nD) :
    iprop((bigSep Finset.univ fun k : Fin 8 => stageAny (F := F) k c) ∗ (bigSep Finset.univ fun k : Fin 8 => dutyTok ER (sCell k c) 0 false)
        ∗ (bigSep Finset.univ fun k : Fin 8 => dutyTok ER (rCell k (peer k c)) 0 false) ∗ (bigSep Finset.univ fun k : Fin 8 => atPos ER (sCell k c) 0 ∅ 0))
      ⊢ (sends c : sProp 𝕄) := by
  rw [← bigSep_sep', ← bigSep_sep', ← bigSep_sep', bigSep_eight]
  exact Entails.of_eq rfl

theorem comings_intro (c : Dev nD) :
    iprop((bigSep Finset.univ fun k : Fin 8 => cred (tallyAt (rCell k c) () (amt k))) ∗ (bigSep Finset.univ fun k : Fin 8 => atPos ER (rCell k c) 0 ∅ 0))
      ⊢ (comings c : sProp 𝕄) := by
  rw [← bigSep_sep', bigSep_eight]
  exact Entails.of_eq rfl

theorem gone_elim (c : Dev nD) :
    (allGone c : sProp 𝕄) ⊢ iprop((bigSep Finset.univ fun k : Fin 8 => stageAny (F := F) k c) ∗ (bigSep Finset.univ fun k : Fin 8 => semVal (sCell k c) 0)) := by
  rw [← bigSep_sep', bigSep_eight]
  exact Entails.of_eq rfl

theorem came_elim (I : Dev nD → Ins F) (c : Dev nD) :
    (allCame I c : sProp 𝕄) ⊢ iprop((bigSep Finset.univ fun k : Fin 8 => landAny (F := F) k c) ∗ (bigSep Finset.univ fun k : Fin 8 => semVal (rCell k c) 0)) := by
  have h : (allCame I c : sProp 𝕄) = iprop((bigSep Finset.univ fun k : Fin 8 => landFrom I k c (peer k c)) ∗ (bigSep Finset.univ fun k : Fin 8 => semVal (rCell k c) 0)) := by
    rw [← bigSep_sep', bigSep_eight]
    rfl
  have h' : (bigSep Finset.univ fun k : Fin 8 => landFrom I k c (peer k c)) ⊢ (bigSep Finset.univ fun k : Fin 8 => landAny (F := F) k c : sProp 𝕄) :=
    bigSep_imp fun k _ => held_any c rM _ _ _ _
  rw [h]
  iintro ⟨H, Hz⟩
  isplitl [H]; · iapply h'; iexact H
  iexact Hz

/-- A device's landing slots are what it hands its partners. -/
theorem lands_over (c : Dev nD) :
    (bigSep Finset.univ fun k : Fin 8 => landAny (F := F) k c : sProp 𝕄) ⊢ iprop(handOver (F := F) true (pa c) ∗ handOver (F := F) false (pb c)) := by
  have ha : handOver (F := F) true (pa c) = iprop(landAny (F := F) 0 c ∗ landAny (F := F) 3 c ∗ landAny (F := F) 4 c ∗ landAny (F := F) 6 c) := by
    unfold handOver; rw [if_pos rfl, pa_pa]
  have hb : handOver (F := F) false (pb c) = iprop(landAny (F := F) 1 c ∗ landAny (F := F) 2 c ∗ landAny (F := F) 5 c ∗ landAny (F := F) 7 c) := by
    unfold handOver; rw [if_neg Bool.false_ne_true, pb_pb]
  rw [bigSep_eight, ha, hb]
  iintro ⟨H0, H1, H2, H3, H4, H5, H6, H7⟩
  isplitl [H0 H3 H4 H6]
  · isplitl [H0]; · iexact H0
    isplitl [H3]; · iexact H3
    isplitl [H4]; · iexact H4
    iexact H6
  isplitl [H1]; · iexact H1
  isplitl [H2]; · iexact H2
  isplitl [H5]; · iexact H5
  iexact H7

/-- The two buffers of slots, cut up and put together, under the names of what lies in them. -/
theorem stages_split (c : Dev nD) (f : Buf (Elt F) ((c : Thread nD τ).loc cc0_scratch0)) :
    (((c : Thread nD τ).loc cc0_scratch0) ↦{fullShare} f : sProp 𝕄)
      ⊢ iprop((bigSep Finset.univ fun k : Fin 8 => stageAny (F := F) k c) ∗ heldAny c sM (boxOff 8) (boxSize 8) (boxInb 8)) :=
  slots_split (F := F) c sM (View.set_whole _) f
theorem stages_join (c : Dev nD) :
    (iprop((bigSep Finset.univ fun k : Fin 8 => stageAny (F := F) k c) ∗ heldAny c sM (boxOff 8) (boxSize 8) (boxInb 8)) : sProp 𝕄)
      ⊢ iprop(∃ f : Buf (Elt F) ((c : Thread nD τ).loc cc0_scratch0), ((c : Thread nD τ).loc cc0_scratch0) ↦{fullShare} f) :=
  slots_join (F := F) c sM (View.set_whole _)
theorem lands_split (c : Dev nD) (f : Buf (Elt F) ((c : Thread nD τ).loc cc0_scratch1)) :
    (((c : Thread nD τ).loc cc0_scratch1) ↦{fullShare} f : sProp 𝕄)
      ⊢ iprop((bigSep Finset.univ fun k : Fin 8 => landAny (F := F) k c) ∗ heldAny c rM (boxOff 8) (boxSize 8) (boxInb 8)) :=
  slots_split (F := F) c rM (View.set_whole _) f
theorem lands_join (c : Dev nD) :
    (iprop((bigSep Finset.univ fun k : Fin 8 => landAny (F := F) k c) ∗ heldAny c rM (boxOff 8) (boxSize 8) (boxInb 8)) : sProp 𝕄)
      ⊢ iprop(∃ f : Buf (Elt F) ((c : Thread nD τ).loc cc0_scratch1), ((c : Thread nD τ).loc cc0_scratch1) ↦{fullShare} f) :=
  slots_join (F := F) c rM (View.set_whole _)

/-! ## The kernel's run -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (ins m ρ c).x ∗ stg c cc0_stg1_0 (ins m ρ c).wq ∗ stg c cc0_stg2_0 (ins m ρ c).wo
    ∗ stg c cc0_stg3_0 (ins m ρ c).wk ∗ stg c cc0_stg4_0 (ins m ρ c).wv ∗ stg c cc0_stg5_0 (outAt (ins m ρ) c))

theorem zeros3 : (![0, 0, 0] : Fin 3 → ℕ) = fun _ => 0 := by decide
theorem zeros2 : (![0, 0] : Fin 2 → ℕ) = fun _ => 0 := by decide

theorem stg_box {s : Shape} {e : EltTy} (c : Dev nD) (m : Memref sig .tc .vmem s e) {off : Fin s.rank → ℕ} (inb : ∀ a, off a + s.size a ≤ s.size a)
    (hm : m.view.set = Finset.univ) (h : off = fun _ => 0) (X : Shape.Idx ⟨s.rank, s.size⟩ → Elt F e) :
    (iprop(∃ f : Buf (Elt F) (m.view.loc (c : Thread nD τ)), ⌜(m.access (Rect.unit off s.size inb)).read (Elt F) f = X⌝ ∗ (m.view.loc (c : Thread nD τ) ↦{fullShare} f)) : sProp 𝕄)
      = held c m off s.size inb X := by
  unfold held
  rw [set_one m inb hm h]

/-- A fetched staging buffer is the box the kernel reads. -/
theorem stg_x (c : Dev nD) (X : Vec F S4x256x1024 .f32) : stg c cc0_stg0_0 X = held c xM ![0, 0, 0] S4x256x1024.size inb_S4x256x1024_S4x256x1024_0_0_0 X := by
  rw [← stg_box c xM inb_S4x256x1024_S4x256x1024_0_0_0 (View.set_whole _) zeros3 X]
  simp only [show ∀ f, (xM.access (Rect.unit (s := S4x256x1024) ![0, 0, 0] S4x256x1024.size inb_S4x256x1024_S4x256x1024_0_0_0)).read (Elt F) f = f from
    fun f => Memref.read_access_unit_zero (Elt F) cc0_stg0_0 zeros3 _ f]
theorem stg_q (c : Dev nD) (X : Vec F S1024x1024 .f32) : stg c cc0_stg1_0 X = held c qM ![0, 0] S1024x1024.size inb_S1024x1024_S1024x1024_0_0 X := by
  rw [← stg_box c qM inb_S1024x1024_S1024x1024_0_0 (View.set_whole _) zeros2 X]
  simp only [show ∀ f, (qM.access (Rect.unit (s := S1024x1024) ![0, 0] S1024x1024.size inb_S1024x1024_S1024x1024_0_0)).read (Elt F) f = f from
    fun f => Memref.read_access_unit_zero (Elt F) cc0_stg1_0 zeros2 _ f]
theorem stg_o (c : Dev nD) (X : Vec F S1024x1024 .f32) : stg c cc0_stg2_0 X = held c oM ![0, 0] S1024x1024.size inb_S1024x1024_S1024x1024_0_0 X := by
  rw [← stg_box c oM inb_S1024x1024_S1024x1024_0_0 (View.set_whole _) zeros2 X]
  simp only [show ∀ f, (oM.access (Rect.unit (s := S1024x1024) ![0, 0] S1024x1024.size inb_S1024x1024_S1024x1024_0_0)).read (Elt F) f = f from
    fun f => Memref.read_access_unit_zero (Elt F) cc0_stg2_0 zeros2 _ f]
theorem stg_k (c : Dev nD) (X : Vec F S1024x1024 .f32) : stg c cc0_stg3_0 X = held c kM ![0, 0] S1024x1024.size inb_S1024x1024_S1024x1024_0_0 X := by
  rw [← stg_box c kM inb_S1024x1024_S1024x1024_0_0 (View.set_whole _) zeros2 X]
  simp only [show ∀ f, (kM.access (Rect.unit (s := S1024x1024) ![0, 0] S1024x1024.size inb_S1024x1024_S1024x1024_0_0)).read (Elt F) f = f from
    fun f => Memref.read_access_unit_zero (Elt F) cc0_stg3_0 zeros2 _ f]
theorem stg_v (c : Dev nD) (X : Vec F S1024x1024 .f32) : stg c cc0_stg4_0 X = held c vM ![0, 0] S1024x1024.size inb_S1024x1024_S1024x1024_0_0 X := by
  rw [← stg_box c vM inb_S1024x1024_S1024x1024_0_0 (View.set_whole _) zeros2 X]
  simp only [show ∀ f, (vM.access (Rect.unit (s := S1024x1024) ![0, 0] S1024x1024.size inb_S1024x1024_S1024x1024_0_0)).read (Elt F) f = f from
    fun f => Memref.read_access_unit_zero (Elt F) cc0_stg4_0 zeros2 _ f]

theorem inputs_eq (c : Dev nD) :
    inputs (ins m ρ) c = (iprop(stg c cc0_stg0_0 (ins m ρ c).x ∗ stg c cc0_stg1_0 (ins m ρ c).wq ∗ stg c cc0_stg2_0 (ins m ρ c).wo
      ∗ stg c cc0_stg3_0 (ins m ρ c).wk ∗ stg c cc0_stg4_0 (ins m ρ c).wv) : sProp 𝕄) := by
  unfold inputs
  rw [stg_x, stg_q, stg_o, stg_k, stg_v]

set_option maxHeartbeats 800000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) qM (Memref.isWhole_whole _) oM (Memref.isWhole_whole _) kM (Memref.isWhole_whole _) vM (Memref.isWhole_whole _)
            outM (Memref.isWhole_whole _) sM (Memref.isWhole_whole _) rM (Memref.isWhole_whole _) hM (Memref.isWhole_whole _) cc0_scratch3 cc0_scratch4) Kt := by
  unfold bodyPre Φ₀ begins scratch linear payToks claims
  iintro ⟨⟨⟨⟨⟨%K, #Hr⟩, ⟨Hat, ⟨Hda, Hdb⟩, Hts, Htr⟩, Hcb, Hcr⟩, ⟨%fs, Hs⟩, ⟨%fr, Hl⟩, ⟨%fh, Hh⟩⟩, Ho, ⟨%d0, %g0, %hg0, Hx⟩, ⟨%d1, %g1, %hg1, Hq⟩, ⟨%d2, %g2, %hg2, Hw⟩, ⟨%d3, %g3, %hg3, Hkk⟩, ⟨%d4, %g4, %hg4, Hv⟩, ⟨%d5, %g5, %hg5, Hout⟩⟩, Hk⟩
  have e0 : g0 = (ins m ρ c).x := by rw [hg0]; unfold Dat.before; rw [if_pos (fetch0_0 t₀)]; rfl
  have e1 : g1 = (ins m ρ c).wq := by rw [hg1]; unfold Dat.before; rw [if_pos (fetch0_1 t₀)]; rfl
  have e2 : g2 = (ins m ρ c).wo := by rw [hg2]; unfold Dat.before; rw [if_pos (fetch0_2 t₀)]; rfl
  have e3 : g3 = (ins m ρ c).wk := by rw [hg3]; unfold Dat.before; rw [if_pos (fetch0_3 t₀)]; rfl
  have e4 : g4 = (ins m ρ c).wv := by rw [hg4]; unfold Dat.before; rw [if_pos (fetch0_4 t₀)]; rfl
  subst e0 e1 e2 e3 e4
  unfold Dat.owesAt Pipeline.owesWithin
  icases Ho with ⟨%W, %hW, HO⟩
  rw [show (dats m ρ 0 c).owed t₀.castSucc = owed₀ c from rfl]
  ihave Hat := (Entails.of_eq (cells_split (F := F) fun i => atPos ER (kcell (c, i)) 0 ∅ 0)) $$ Hat
  icases Hat with ⟨Hab, Has, Har⟩
  ihave Hs := (stages_split (F := F) c fs) $$ Hs
  icases Hs with ⟨Hs, Hs8⟩
  ihave Hl := (lands_split (F := F) c fr) $$ Hl
  icases Hl with ⟨Hl, Hl8⟩
  ihave Hl := (lands_over (F := F) c) $$ Hl
  icases Hl with ⟨Hla, Hlb⟩
  ihave Hh := (into_one (F := F) c hM inb_S1024x1024_S1024x1024_0_0 (View.set_whole _) zeros2 fh) $$ Hh
  ihave Hout := (outs_split (F := F) c g5) $$ Hout
  icases Hout with ⟨%A, %B, %C, %D, %E, Hout⟩
  ihave Hsend := (sends_intro (F := F) c) $$ [Hs Hts Htr Has]
  · isplitl [Hs]; · iexact Hs
    isplitl [Hts]; · iexact Hts
    isplitl [Htr]; · iexact Htr
    iexact Has
  ihave Hcome := (comings_intro (F := F) c) $$ [Hcr Har]
  · isplitl [Hcr]; · iexact Hcr
    iexact Har
  iapply (run_body (ins m ρ) K c (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _)) $$ [Hla Hlb Hda Hdb Hcb Hab HO Hsend Hcome Hx Hq Hw Hkk Hv Hout Hh]
  · isplitr; · iexact Hr
    unfold before
    isplitl [Hla Hlb Hda Hdb Hcb Hab HO]
    · isplitl [Hla]; · iexact Hla
      isplitl [Hlb]; · iexact Hlb
      isplitl [Hda]; · iexact Hda
      isplitl [Hdb]; · iexact Hdb
      isplitl [Hcb]; · iexact Hcb
      isplitl [Hab]; · iexact Hab
      unfold owing; iexists W; iexact HO
    isplitl [Hsend]; · iexact Hsend
    isplitl [Hcome]; · iexact Hcome
    isplitl [Hx Hq Hw Hkk Hv]
    · rw [inputs_eq]
      isplitl [Hx]
      · iexists _; isplitr; · (ipureintro; rfl)
        iexact Hx
      isplitl [Hq]
      · iexists _; isplitr; · (ipureintro; rfl)
        iexact Hq
      isplitl [Hw]
      · iexists _; isplitr; · (ipureintro; rfl)
        iexact Hw
      isplitl [Hkk]
      · iexists _; isplitr; · (ipureintro; rfl)
        iexact Hkk
      iexists _; isplitr; · (ipureintro; rfl)
      iexact Hv
    isplitl [Hout]; · iexact Hout
    unfold acts
    iexact Hh
  unfold after owing
  iintro ⟨Hzb, ⟨%W', HO⟩, Hgone, Hcame, Hin, Hout, Hh⟩
  ihave Hgone := (gone_elim (F := F) c) $$ Hgone
  icases Hgone with ⟨Hs, Hzs⟩
  ihave Hcame := (came_elim (ins m ρ) c) $$ Hcame
  icases Hcame with ⟨Hl, Hzr⟩
  ihave Hs := (stages_join (F := F) c) $$ [Hs Hs8]
  · isplitl [Hs]; · iexact Hs
    iexact Hs8
  ihave Hl := (lands_join (F := F) c) $$ [Hl Hl8]
  · isplitl [Hl]; · iexact Hl
    iexact Hl8
  ihave Hout := (outs_join (ins m ρ) c) $$ Hout
  ihave Hin := (Entails.of_eq (inputs_eq m ρ c)) $$ Hin
  icases Hin with ⟨Hx, Hq, Hw, Hkk, Hv⟩
  iapply Hk
  unfold bodyPost Φ₁ scratch Dat.owesAt Pipeline.owesWithin
  rw [show (dats m ρ 0 c).owed t₀.succ = 0 from rfl]
  isplitl [Hs Hl Hh Hzb Hzs Hzr]
  · isplitl [Hs Hl Hh]
    · isplitl [Hs]; · iexact Hs
      isplitl [Hl]; · iexact Hl
      unfold acts
      ihave Hh := (outof_one (F := F) c hM inb_S1024x1024_S1024x1024_0_0 (View.set_whole _) zeros2 _) $$ Hh
      icases Hh with ⟨%f, -, Hh⟩
      iexists f; iexact Hh
    rw [cells_split]
    isplitl [Hzb]; · iexact Hzb
    isplitl [Hzs]; · iexact Hzs
    iexact Hzr
  isplitl [HO]
  · iexists W'
    isplitr; · ipureintro; exact fun _ _ => Or.inl trivial
    iexact HO
  isplitl [Hx]; · iexact Hx
  isplitl [Hq]; · iexact Hq
  isplitl [Hw]; · iexact Hw
  isplitl [Hkk]; · iexact Hkk
  isplitl [Hv]; · iexact Hv
  iexists _; isplitr; · (ipureintro; rfl)
  iexact Hout

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The kernel's run is what the pipeline asks of it. -/
theorem body_obligation (c : Dev nD) : BodyObligation (dats (F := F) m ρ 0 c) (defs₀ (F := F)) 𝒱₀ () Set.univ := fun t => by
  rw [fin_N0 t]
  rw [bigSep_W, bigSep_W]
  simp only [owns_whole]
  show bodyPre m ρ c ⊢ wp frame (wpE (defs₀ (F := F)) 𝒱₀ c none) Set.univ
    (cc0_body xM (Memref.isWhole_whole _) qM (Memref.isWhole_whole _) oM (Memref.isWhole_whole _) kM (Memref.isWhole_whole _) vM (Memref.isWhole_whole _)
            outM (Memref.isWhole_whole _) sM (Memref.isWhole_whole _) rM (Memref.isWhole_whole _) hM (Memref.isWhole_whole _) cc0_scratch3 cc0_scratch4) (fun _ => bodyPost m ρ c)
  iintro H
  iapply (sound_body m ρ c fun _ => bodyPost m ρ c)
  isplitl [H]; · iexact H
  iintro H; iexact H

end Cert.HeadShard
-- ==== Proof.Run.lean ====
/-
# The launch and the whole run

Every semaphore starts at zero and no copy is under way. The launch makes the cells' invariants, deals every device the
duties it pays and the credit it claims; then the four kernels run together and end with each result array written.
-/
module

public import proofs.«01_k».proof.Proof.Launch
public import proofs.«01_k».proof.Proof.Gen.KernelIdeal.Launch
public import Idealize.ShloMosaic.Lib.Pipeline.CollectiveSegs

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the send and the receive semaphore of each transfer. -/
def osem : Fin 8 ⊕ Fin 8 → SemLoc sig := fun j => csem (.inr j)
theorem osem_facts : Pipeline.OwnSemFacts cfg0.spec osem := by decide

theorem share_eq (c : Dev nD) (w : Fin cfg0.W) : (dats m ρ 0 c).share w = fullShare := by unfold Dat.share; split <;> rfl

theorem csem_injective : Function.Injective csem := by
  unfold Function.Injective; decide
theorem kcell_injective : Function.Injective (kcell : Dev nD × CI → GSem nD τ sig) := by
  rintro ⟨c, i⟩ ⟨c', i'⟩ h
  obtain rfl : c = c' := congrArg (fun g : GSem nD τ sig => g.1.1) h
  obtain rfl : i = i' := csem_injective (congrArg Prod.snd h)
  rfl
def allCells : Finset (GSem nD τ sig) := Finset.univ.map ⟨kcell, kcell_injective⟩

/-- The duties of a device's own cells: its barrier's two, one of every send and receive cell. -/
abbrev TI := Bool ⊕ (Fin 8 ⊕ Fin 8)
def duty : TI → CI × Bool
  | .inl b => (.inl (), b)
  | .inr j => (.inr j, false)
theorem duty_injective : Function.Injective duty := by
  unfold Function.Injective; decide
def tokOf (p : Dev nD × TI) : GSem nD τ sig × ℕ × Bool := (kcell (p.1, (duty p.2).1), 0, (duty p.2).2)
theorem tokOf_injective : Function.Injective tokOf := by
  rintro ⟨c, i⟩ ⟨c', i'⟩ h
  have h1 := kcell_injective (congrArg Prod.fst h)
  obtain rfl : c = c' := congrArg Prod.fst h1
  obtain rfl : i = i' := duty_injective (Prod.ext (congrArg Prod.snd h1) (congrArg (fun x : GSem nD τ sig × ℕ × Bool => x.2.2) h))
  rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

def ownToks (c : Dev nD) : sProp 𝕄 := bigSep Finset.univ fun i : TI => dutyTok ER (tokOf (c, i)).1 (tokOf (c, i)).2.1 (tokOf (c, i)).2.2

/-- What the launch deals device `c`. -/
def G (c : Dev nD) : sProp 𝕄 :=
  iprop((bigSep Finset.univ fun i : CI => roundState ER (plan (ins m ρ)) (kcell (c, i)) 0)
    ∗ (bigSep Finset.univ fun i : CI => iprop(atPos ER (kcell (c, i)) 0 ∅ 0 ∗ reached ER (kcell (c, i)) 0)) ∗ ownToks (F := F) c)

/-- The cells' invariants, under their names, and that their rounds have begun. -/
def known (K : Dev nD × CI → ℕ) : sProp 𝕄 :=
  iprop((bigSep Finset.univ fun p : Dev nD × CI => Rounds.cellInv ER (plan (ins m ρ)) (K p) (kcell p))
    ∗ (bigSep Finset.univ fun p : Dev nD × CI => reached ER (kcell p) 0))
instance known_persistent (K : Dev nD × CI → ℕ) : BI.Persistent (known m ρ K) := by unfold known; infer_instance

/-- What the devices make of it together. -/
def G' (c : Dev nD) : sProp 𝕄 := iprop(∃ K, known m ρ K ∗ linear (F := F) c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro H
  imod (Rounds.fund ER (plan (ins m ρ)) allCells allToks) $$ H with ⟨Hst, Hr, Hat, Htok⟩
  imodintro
  ihave Hst' := (Entails.of_eq (hX fun g => roundState ER (plan (ins m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem bar_unscoped (c : Dev nD) : (unscopedSems0 c : sProp 𝕄) = semVal (barCell c) 0 := by
  unfold unscopedSems0; rw [bigSep_eq_bigSepL_of_eq [SemLoc.reg barS] (by decide) (by decide)]; rfl

theorem sems_at_zero (c : Dev nD) :
    iprop(unscopedSems0 c ∗ Pipeline.ownSems0 (Ix := Unit) (Name := ℕ) (U := UU) (Lvl := ℕ) (Val := Elt F) (τ := τ) osem c)
      = (bigSep Finset.univ fun i : CI => semVal (kcell (c, i)) 0 : sProp 𝕄) := by
  rw [bar_unscoped, bigSep_univ_sum, bigSep_univ_eq_bigSepL [()] (by decide) (by decide), bigSepL_singleton]
  rfl

theorem cells_made (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, Rounds.cellInv ER (plan (ins m ρ)) κ (kcell (c, i))))
          ∗ (bigSep Finset.univ fun i : CI => iprop(atPos ER (kcell (c, i)) 0 ∅ 0 ∗ reached ER (kcell (c, i)) 0)) ∗ ownToks c) := by
  have hmk : iprop((bigSep Finset.univ fun i : CI => semVal (kcell (c, i)) 0) ∗ bigSep Finset.univ fun i : CI => roundState ER (plan (ins m ρ)) (kcell (c, i)) 0)
      ⊢ (|={Set.univ}=> bigSep Finset.univ fun i : CI => iprop(∃ κ : ℕ, Rounds.cellInv ER (plan (ins m ρ)) κ (kcell (c, i))) : sProp 𝕄) := by
    rw [← bigSep_sep']
    exact (bigSep_imp fun i _ => (Rounds.body_intro ER (plan (ins m ρ)) (kcell (c, i))).trans inv_alloc).trans (bigSep_fupd _ _)
  unfold G
  iintro ⟨Hos, Hus, Hst, Hat, Htok⟩
  ihave Hv := (Entails.of_eq (sems_at_zero (F := F) c)) $$ [Hos Hus]
  · isplitl [Hus] <;> iassumption
  imod hmk $$ [Hv Hst] with Hinv
  · isplitl [Hv] <;> iassumption
  imodintro
  isplitl [Hinv]; · iexact Hinv
  isplitl [Hat]; · iexact Hat
  iexact Htok

/-! ## The duties dealt -/

def paE : Dev nD ≃ Dev nD := ⟨pa, pa, pa_pa, pa_pa⟩
def pbE : Dev nD ≃ Dev nD := ⟨pb, pb, pb_pb, pb_pb⟩
/-- A transfer's two ends, swapped. -/
def endE : Dev nD × Fin 8 ≃ Dev nD × Fin 8 :=
  ⟨fun p => (peer p.2 p.1, p.2), fun p => (peer p.2 p.1, p.2), fun p => by dsimp only; rw [peer_peer], fun p => by dsimp only; rw [peer_peer]⟩

theorem toks_split (c : Dev nD) : (ownToks c : sProp 𝕄) = iprop((dutyTok ER (barCell c) 0 false ∗ dutyTok ER (barCell c) 0 true)
    ∗ (bigSep Finset.univ fun k : Fin 8 => dutyTok ER (sCell k c) 0 false) ∗ (bigSep Finset.univ fun k : Fin 8 => dutyTok ER (rCell k c) 0 false)) := by
  unfold ownToks
  rw [bigSep_univ_sum, bigSep_univ_sum, bigSep_univ_eq_bigSepL [false, true] (by decide) (by decide), bigSepL_cons_cons, bigSepL_singleton]
  rfl

theorem toks_dealt : (bigSep Finset.univ fun c : Dev nD => (ownToks c : sProp 𝕄)) ⊢ bigSep Finset.univ fun c : Dev nD => payToks c := by
  have hr : (bigSep Finset.univ fun c : Dev nD => bigSep Finset.univ fun k : Fin 8 => (dutyTok ER (rCell k c) 0 false : sProp 𝕄))
      = bigSep Finset.univ fun c : Dev nD => bigSep Finset.univ fun k : Fin 8 => dutyTok ER (rCell k (peer k c)) 0 false := by
    rw [← bigSep_univ_prod (fun p : Dev nD × Fin 8 => (dutyTok ER (rCell p.2 p.1) 0 false : sProp 𝕄)),
      bigSep_univ_equiv endE (fun p : Dev nD × Fin 8 => (dutyTok ER (rCell p.2 p.1) 0 false : sProp 𝕄)), bigSep_univ_prod]
    rfl
  unfold payToks
  rw [bigSep_congr fun c _ => toks_split (F := F) c, bigSep_sep', bigSep_sep', bigSep_sep', bigSep_sep', bigSep_sep', bigSep_sep', hr,
    bigSep_univ_equiv pbE (fun c : Dev nD => (dutyTok ER (barCell c) 0 false : sProp 𝕄)),
    bigSep_univ_equiv paE (fun c : Dev nD => (dutyTok ER (barCell c) 0 true : sProp 𝕄))]
  iintro ⟨⟨Hb, Ha⟩, Hs, Hr⟩
  isplitl [Ha Hb]
  · isplitl [Ha]; · iexact Ha
    iexact Hb
  isplitl [Hs]; · iexact Hs
  iexact Hr

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_imp h)

theorem regroup :
    (bigSep Finset.univ fun c : Dev nD => iprop((bigSep Finset.univ fun i : CI => iprop(∃ κ : ℕ, Rounds.cellInv ER (plan (ins m ρ)) κ (kcell (c, i))))
          ∗ (bigSep Finset.univ fun i : CI => iprop(atPos ER (kcell (c, i)) 0 ∅ 0 ∗ reached ER (kcell (c, i)) 0)) ∗ ownToks c) : sProp 𝕄)
      ⊢ bigSep Finset.univ (G' m ρ) := by
  rw [bigSep_sep', bigSep_sep', ← bigSep_univ_prod (fun p : Dev nD × CI => iprop(∃ κ : ℕ, Rounds.cellInv ER (plan (ins m ρ)) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htk⟩
  ihave Htk := (toks_dealt (F := F)) $$ Htk
  ihave HK := (BI.bigSep_exists_pi Finset.univ (fun (p : Dev nD × CI) (κ : ℕ) => (Rounds.cellInv ER (plan (ins m ρ)) κ (kcell p) : sProp 𝕄))) $$ HI
  icases HK with ⟨%K, #HI⟩
  have hg : ∀ c ∈ (Finset.univ : Finset (Dev nD)), iprop(known m ρ K ∗ linear (F := F) c) ⊢ G' m ρ c := fun c _ => by
    unfold G'; iintro H; iexists K; iexact H
  have hl : iprop((bigSep Finset.univ fun c : Dev nD => bigSep Finset.univ fun i : CI => atPos ER (kcell (c, i)) 0 ∅ 0) ∗ (bigSep Finset.univ fun c : Dev nD => payToks c))
      = (bigSep Finset.univ fun c : Dev nD => linear c : sProp 𝕄) := by
    rw [← bigSep_sep']; rfl
  iapply (with_known hg)
  isplitr
  · unfold known; isplitl; · iexact HI
    iexact HR
  rw [← hl]
  isplitl [Hat]; · iexact Hat
  iexact Htk

theorem dealt : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_imp fun c _ => cells_made m ρ c).trans (bigSep_fupd _ _)).trans (BI.fupd_mono (regroup m ρ))

/-! ## The credits -/

theorem rCell_eq_iff {j k : Fin 8} {a b : Dev nD} : rCell j a = rCell k b ↔ (j = k ∧ a = b) := by
  constructor
  · intro h
    have h' := kcell_injective (a₁ := (a, .inr (.inr j))) (a₂ := (b, .inr (.inr k))) h
    exact ⟨Sum.inr_injective (Sum.inr_injective (congrArg Prod.snd h')), congrArg Prod.fst h'⟩
  · rintro ⟨rfl, rfl⟩; rfl
theorem barCell_eq_iff {a b : Dev nD} : barCell a = barCell b ↔ a = b :=
  ⟨fun h => congrArg (fun g : GSem nD τ sig => g.1.1) h, fun h => h ▸ rfl⟩
theorem bar_ne_r {k : Fin 8} {a b : Dev nD} : barCell a ≠ rCell k b := fun h => by
  have h' := kcell_injective (a₁ := (a, .inl ())) (a₂ := (b, .inr (.inr k))) h
  exact Sum.inl_ne_inr (congrArg Prod.snd h')

/-- Of a list of transfers, each once, a device owes a receive cell the one that ends there. -/
theorem owed_at_r (d c : Dev nD) (k : Fin 8) (l : List (Fin 8)) (hl : l.Nodup) :
    owed d l (rCell k c) () = if k ∈ l ∧ d = peer k c then amt k else 0 := by
  induction l with
  | nil => rw [if_neg (by rintro ⟨h, _⟩; exact absurd h List.not_mem_nil)]; rfl
  | cons j l ih =>
    obtain ⟨hj, hl⟩ := List.nodup_cons.mp hl
    unfold owed
    rw [Pi.add_apply, Finsupp.add_apply, ih hl, tallyAt_apply]
    by_cases hk : k = j
    · subst hk
      rw [if_neg (fun h => hj h.1), Nat.zero_add]
      by_cases hd : d = peer k c
      · rw [if_pos ⟨by rw [hd, peer_peer], rfl⟩, if_pos ⟨List.mem_cons_self, hd⟩]
      · rw [if_neg (fun h => hd (by rw [(rCell_eq_iff.mp h.1).2, peer_peer])), if_neg (fun h => hd h.2)]
    · rw [if_neg (c := rCell k c = rCell j (peer j d) ∧ () = ()) (fun h => hk (rCell_eq_iff.mp h.1).1), Nat.add_zero]
      refine if_congr ?_ rfl rfl
      rw [List.mem_cons, or_iff_right hk]

theorem owed_at_bar (d c : Dev nD) (l : List (Fin 8)) : owed d l (barCell c) () = 0 := by
  induction l with
  | nil => rfl
  | cons j l ih =>
    unfold owed
    rw [Pi.add_apply, Finsupp.add_apply, ih, tallyAt_ne_cell bar_ne_r]; rfl

theorem owes_r (d c : Dev nD) (k : Fin 8) : owed₀ d (rCell k c) () = if d = peer k c then amt k else 0 := by
  have hk : k ∈ sendOrder := by revert k; decide
  unfold owed₀ owed₁
  rw [Pi.add_apply, Finsupp.add_apply, Pi.add_apply, Finsupp.add_apply, owed_at_r d c k _ (by decide), tallyAt_ne_cell (fun h => bar_ne_r h.symm),
    tallyAt_ne_cell (fun h => bar_ne_r h.symm), Finsupp.zero_apply, Nat.add_zero, Nat.add_zero]
  exact if_congr (and_iff_right hk) rfl rfl

theorem owes_bar (d c : Dev nD) : owed₀ d (barCell c) () = (if d = pb c then 1 else 0) + (if d = pa c then 1 else 0) := by
  have h (a b : Dev nD) (f : Dev nD → Dev nD) (hf : ∀ c, f (f c) = c) : (if barCell a = barCell (f b) ∧ () = () then 1 else 0) = if b = f a then 1 else 0 :=
    if_congr ⟨fun h => by rw [barCell_eq_iff.mp h.1, hf], fun h => ⟨by rw [h, hf], rfl⟩⟩ rfl rfl
  unfold owed₀ owed₁
  rw [Pi.add_apply, Finsupp.add_apply, Pi.add_apply, Finsupp.add_apply, owed_at_bar, tallyAt_apply, tallyAt_apply, Nat.zero_add, h c d pb pb_pb, h c d pa pa_pa]

theorem credit_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (pb c) fun _ => 1, Finset.sum_ite_eq' Finset.univ (pa c) fun _ => 1, if_pos (Finset.mem_univ _), if_pos (Finset.mem_univ _)]

theorem credit_r (k : Fin 8) (c : Dev nD) :
    tallyOn (rCell k c) (launchCredit (Pipeline.owing owed₀) 0 (rCell k c)) = (tallyAt (rCell k c) () (amt k) : CellTallies nD τ sig Unit) := by
  unfold tallyAt; refine congrArg _ (Finsupp.ext fun u => ?_); cases u
  rw [Pipeline.launchCredit_owing, Finsupp.single_eq_same, Finset.sum_congr rfl fun d _ => owes_r d c k, Finset.sum_ite_eq' Finset.univ (peer k c) fun _ => amt k,
    if_pos (Finset.mem_univ _)]

def rEmb : Fin 8 ↪ SemLoc sig := ⟨fun k => .dma (rS k), by unfold Function.Injective; decide⟩

theorem claims_intro (c : Dev nD) : (Pipeline.launchCred owed₀ c : sProp 𝕄) ⊢ claims c := by
  have hsub : Finset.univ.map rEmb ⊆ Finset.univ.erase (SemLoc.reg barS : SemLoc sig) := fun x hx => by
    obtain ⟨k, _, rfl⟩ := Finset.mem_map.mp hx
    exact Finset.mem_erase.mpr ⟨(fun h => nomatch h), Finset.mem_univ _⟩
  have hr : bigSep (Finset.univ.map rEmb) (fun sm : SemLoc sig => (cred (tallyOn ((c : Thread nD τ), sm) (launchCredit (Pipeline.owing owed₀) 0 ((c : Thread nD τ), sm))) : sProp 𝕄))
      = bigSep Finset.univ fun k : Fin 8 => cred (tallyAt (rCell k c) () (amt k)) := by
    rw [bigSep_map]
    exact bigSep_congr fun k _ => congrArg cred (credit_r k c)
  unfold Pipeline.launchCred claims
  rw [bigSep_univ_at _ (SemLoc.reg barS), credit_bar, ← hr]
  exact sep_mono_right (BI.bigSep_subset hsub)

/-! ## The launch's side conditions -/

theorem begins_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(begins m ρ c ∗ emp) := by
  unfold begins G' known records
  iintro ⟨-, Hlev, Hcr, -, ⟨%K, ⟨HI, HR⟩, Hlin⟩⟩
  ihave Hc := (claims_intro (F := F) c) $$ Hcr
  imodintro
  isplitl
  · isplitl [HI HR Hlev]
    · iexists K
      isplitl [HI]; · iexact HI
      isplitl [HR]; · iexact HR
      iexact Hlev
    isplitl [Hlin]; · iexact Hlin
    iexact Hc
  · iempintro

theorem phi0_intro (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [← sems_at_zero]
  iintro ⟨Hr, Hz, Ho⟩
  isplitl [Hz]; · iexact Hz
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ## The run -/

/-- A window's array after the run. -/
def endAt (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = endAt m ρ c w

set_option maxRecDepth 8000 in
/-- For any float values and from any memory with the semaphores at zero, every fair execution of the four devices ends,
    with every device's arrays as computed and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := dealt m ρ)
    (hA := fun _ _ => rfl) (hpf := fun _ k => k.elim0)
    (X := begins m ρ) (Y := fun c => unscopedSems0 c) (Z := fun _ => iprop(emp))
    (hX := begins_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.HeadShard
-- ==== Proof.Frames.lean ====
/-
# What the run leaves, and the frames

The run, read at the argument arrays and at the result array; for any float values, so for both programs.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem end_arg0 (c : Dev nD) : endAt m ρ c (0 : Fin 6) = m ((c : Thread nD τ).loc main_arg0) :=
  (dats (F := F) m ρ 0 c).arrAt_in (0 : Fin 6) rfl _
theorem ins_x (c : Dev nD) : (ins m ρ c).x = m ((c : Thread nD τ).loc main_arg0) :=
  show (win0_0.blk (0 : Fin 1)).view.read (Elt F) (m ((c : Thread nD τ).loc main_arg0)) = m ((c : Thread nD τ).loc main_arg0) from
  Memref.read_access_unit_zero (Elt F) main_arg0 (funext fun a => by revert a; decide) (fun a => by revert a; decide) _
theorem end_arg1 (c : Dev nD) : endAt m ρ c (1 : Fin 6) = m ((c : Thread nD τ).loc main_arg1) :=
  (dats (F := F) m ρ 0 c).arrAt_in (1 : Fin 6) rfl _
theorem ins_wq (c : Dev nD) : (ins m ρ c).wq = m ((c : Thread nD τ).loc main_arg1) :=
  show (win0_1.blk (0 : Fin 1)).view.read (Elt F) (m ((c : Thread nD τ).loc main_arg1)) = m ((c : Thread nD τ).loc main_arg1) from
  Memref.read_access_unit_zero (Elt F) main_arg1 (funext fun a => by revert a; decide) (fun a => by revert a; decide) _
theorem end_arg4 (c : Dev nD) : endAt m ρ c (2 : Fin 6) = m ((c : Thread nD τ).loc main_arg4) :=
  (dats (F := F) m ρ 0 c).arrAt_in (2 : Fin 6) rfl _
theorem ins_wo (c : Dev nD) : (ins m ρ c).wo = m ((c : Thread nD τ).loc main_arg4) :=
  show (win0_2.blk (0 : Fin 1)).view.read (Elt F) (m ((c : Thread nD τ).loc main_arg4)) = m ((c : Thread nD τ).loc main_arg4) from
  Memref.read_access_unit_zero (Elt F) main_arg4 (funext fun a => by revert a; decide) (fun a => by revert a; decide) _
theorem end_arg2 (c : Dev nD) : endAt m ρ c (3 : Fin 6) = m ((c : Thread nD τ).loc main_arg2) :=
  (dats (F := F) m ρ 0 c).arrAt_in (3 : Fin 6) rfl _
theorem ins_wk (c : Dev nD) : (ins m ρ c).wk = m ((c : Thread nD τ).loc main_arg2) :=
  show (win0_3.blk (0 : Fin 1)).view.read (Elt F) (m ((c : Thread nD τ).loc main_arg2)) = m ((c : Thread nD τ).loc main_arg2) from
  Memref.read_access_unit_zero (Elt F) main_arg2 (funext fun a => by revert a; decide) (fun a => by revert a; decide) _
theorem end_arg3 (c : Dev nD) : endAt m ρ c (4 : Fin 6) = m ((c : Thread nD τ).loc main_arg3) :=
  (dats (F := F) m ρ 0 c).arrAt_in (4 : Fin 6) rfl _
theorem ins_wv (c : Dev nD) : (ins m ρ c).wv = m ((c : Thread nD τ).loc main_arg3) :=
  show (win0_4.blk (0 : Fin 1)).view.read (Elt F) (m ((c : Thread nD τ).loc main_arg3)) = m ((c : Thread nD τ).loc main_arg3) from
  Memref.read_access_unit_zero (Elt F) main_arg3 (funext fun a => by revert a; decide) (fun a => by revert a; decide) _

/-- The result array after the run. -/
theorem end_out (c : Dev nD) : endAt m ρ c (5 : Fin 6) = outAt (ins m ρ) c := by
  have h : (win0_5.blk (0 : Fin 1)).view.read (Elt F) (endAt m ρ c (5 : Fin 6)) = outAt (ins m ρ) c := by
    unfold endAt
    rw [show cfg0.N = ((0 : Fin 1) : Fin cfg0.N).val + 1 from rfl, (dats m ρ 0 c).arrAt_succ (5 : Fin 6) (0 : Fin 1)]
    rw [show (cfg0.win (5 : Fin 6)).flush (0 : Fin 1) = true from flush0_5 t₀, if_pos rfl]
    exact View.read_write_univ _ _
  rw [← h]
  exact (Memref.read_access_unit_zero (Elt F) main_v1 (funext fun a => by revert a; decide) (fun a => by revert a; decide) _).symm

/-- The run: the arguments unchanged, every device's result array written, every semaphore at zero. -/
theorem run_values : θ_run defs (onTc (τ := τ) (main (F := F))) ⟨m, fun _ => 0, ρ⟩ (fun r => (∀ c : Dev nD,
    r.2.mem ((c.tc : Thread nD τ).loc main_v1) = outAt (ins m ρ) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (end_out m ρ c), (h.1 c (0 : Fin 6)).trans (end_arg0 m ρ c),
    (h.1 c (1 : Fin 6)).trans (end_arg1 m ρ c), (h.1 c (3 : Fin 6)).trans (end_arg2 m ρ c), (h.1 c (4 : Fin 6)).trans (end_arg3 m ρ c),
    (h.1 c (2 : Fin 6)).trans (end_arg4 m ρ c)⟩, h.2⟩) (run_main m ρ)

theorem frame_ideal : Cert.quiescent_KernelIdeal := fun m ρ _ =>
  (θ_run Cert.KernelIdeal.defs _ _).mono (fun _ h => ⟨fun c => (h.1 c).2, h.2⟩) (run_values (F := Ideal) m ρ)

/-- The bit-level program is the same text: its body table is the same table, -/
theorem bodies_same : Cert.Kernel.defs₀ (F := Bits) = Cert.KernelIdeal.defs₀ (F := Bits) := by
  unfold Cert.Kernel.defs₀ Cert.KernelIdeal.defs₀
  refine congrArg Defs.onTc ?_
  funext l a
  obtain rfl : l = 0 := Subsingleton.elim _ _
  rfl
theorem defs_same : Cert.Kernel.defs (F := Bits) = Cert.KernelIdeal.defs (F := Bits) := congrArg (Pipeline.defs Cert.KernelIdeal.pcfgs) bodies_same
/-- so its run is the one above. -/
theorem frame_kernel : Cert.quiescent_Kernel := by
  intro m ρ _
  rw [defs_same]
  exact (θ_run Cert.KernelIdeal.defs _ _).mono (fun _ h => ⟨fun c => (h.1 c).2, h.2⟩) (run_values (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.HeadShard
-- ==== Proof.Attend.lean ====
/-
# One batch of attention, as every part of the kernel computes it

The kernel computes five attention partials: three of a whole batch and two of half a batch. Their payloads are cut at
different places, but each is the same composition: project the rows, cut eight heads of 128 columns, weigh each head's
values by the softmax of its scores, put the eight results side by side and multiply by the output weights. This file
writes that composition once for 256 query rows and once for 128, and says that the five parts are instances of it.
-/
module

public import proofs.«01_k».proof.Proof.Contents
public import Idealize.ShloMosaic.Lib.Pointwise

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The heads -/

/-- A head's 128 columns lie in the block. -/
theorem cut_all (h : Fin 8) : S256x1024.Slices ![0, 128 * h.val] S256x128 := by
  revert h; decide

/-- The same of half a batch. -/
theorem cut_half (h : Fin 8) : S128x1024.Slices ![0, 128 * h.val] S128x128 := by
  revert h; decide

/-- Head `h`'s columns of a batch's projection. -/
def cols (h : Fin 8) (v : FVec F S256x1024 .bf16) : FVec F S256x128 .bf16 :=
  extractStridedSlice S256x128 ![0, 128 * h.val] v (cut_all h)

/-- Head `h`'s columns of half a batch's projection. -/
def colsHalf (h : Fin 8) (v : FVec F S128x1024 .bf16) : FVec F S128x128 .bf16 :=
  extractStridedSlice S128x128 ![0, 128 * h.val] v (cut_half h)

/-- One head of a batch: the scaled scores, then their softmax against the values. -/
def head (q k v : FVec F S256x128 .bf16) : FVec F S256x128 .f32 :=
  k0_pay14 v (mulf (matmul dot_S256x128_S256x128_S256x256_1_1_0_0_n_n none q k (constant S256x256 .f32 0x00000000#32))
    (broadcast S256x256 (Scalar.ofBits .f32 0x3DB504F3#32)))

/-- One head for half a batch's queries. -/
def headHalf (q : FVec F S128x128 .bf16) (k v : FVec F S256x128 .bf16) : FVec F S128x128 .f32 :=
  k0_pay75 v (matmul dot_S128x128_S256x128_S128x256_1_1_0_0_n_n none q k (constant S128x256 .f32 0x00000000#32))
    (Scalar.ofBits .f32 0x3DB504F3#32)

/-- Eight heads side by side, rounded, times the output weights. -/
def join (o : FVec F S1024x1024 .bf16) (f : Fin 8 → FVec F S256x128 .f32) : FVec F S256x1024 .f32 :=
  matmul dot_S256x1024_S1024x1024_S256x1024_1_0_0_1_n_n none
    (truncf .bf16 (concatenate S256x1024 1 [⟨S256x128, f 0⟩, ⟨S256x128, f 1⟩, ⟨S256x128, f 2⟩, ⟨S256x128, f 3⟩, ⟨S256x128, f 4⟩,
      ⟨S256x128, f 5⟩, ⟨S256x128, f 6⟩, ⟨S256x128, f 7⟩]
      concatenates_S256x128_S256x128_S256x128_S256x128_S256x128_S256x128_S256x128_S256x128_S256x1024_d1) bitsLt_bf16_f32)
    o (constant S256x1024 .f32 0x00000000#32)

/-- The same for half a batch. -/
def joinHalf (o : FVec F S1024x1024 .bf16) (f : Fin 8 → FVec F S128x128 .f32) : FVec F S128x1024 .f32 :=
  matmul dot_S128x1024_S1024x1024_S128x1024_1_0_0_1_n_n none
    (truncf .bf16 (concatenate S128x1024 1 [⟨S128x128, f 0⟩, ⟨S128x128, f 1⟩, ⟨S128x128, f 2⟩, ⟨S128x128, f 3⟩, ⟨S128x128, f 4⟩,
      ⟨S128x128, f 5⟩, ⟨S128x128, f 6⟩, ⟨S128x128, f 7⟩]
      concatenates_S128x128_S128x128_S128x128_S128x128_S128x128_S128x128_S128x128_S128x128_S128x1024_d1) bitsLt_bf16_f32)
    o (constant S128x1024 .f32 0x00000000#32)

namespace Ins

variable (w : Ins F)

/-- The attention partial of the batch `z`. -/
def batch (z : Vec F S256x1024 .bf16) : FVec F S256x1024 .f32 :=
  join w.o fun h => head (cols h (k0_pay8 w.q z)) (cols h (k0_pay8 w.k z)) (cols h (k0_pay8 w.v z))

/-- The attention partial of the rows `y` of the batch `z`. -/
def half (z : Vec F S256x1024 .bf16) (y : Vec F S128x1024 .bf16) : FVec F S128x1024 .f32 :=
  joinHalf w.o fun h => headHalf (colsHalf h (k0_pay72 w.q y)) (cols h (k0_pay8 w.k z)) (cols h (k0_pay8 w.v z))

theorem partA_eq (z : Vec F S256x1024 .bf16) : w.partA z = w.batch z := rfl
theorem partB_eq (z : Vec F S256x1024 .bf16) : w.partB z = w.batch z := rfl
theorem partC_eq (z : Vec F S256x1024 .bf16) : w.partC z = w.batch z := rfl
theorem partD_eq (z : Vec F S256x1024 .bf16) (y : Vec F S128x1024 .bf16) : w.partD z y = w.half z y := rfl
theorem partE_eq (z : Vec F S256x1024 .bf16) (y : Vec F S128x1024 .bf16) : w.partE z y = w.half z y := rfl

/-- What is staged is the partial in the narrow format. -/
theorem sentA_eq (z : Vec F S256x1024 .bf16) :
    w.sentA z = shapeCast S1x256x1024 (truncf .bf16 (w.batch z) bitsLt_bf16_f32) shapeCasts_S256x1024_S1x256x1024 := rfl
theorem sentB_eq (z : Vec F S256x1024 .bf16) :
    w.sentB z = shapeCast S1x256x1024 (truncf .bf16 (w.batch z) bitsLt_bf16_f32) shapeCasts_S256x1024_S1x256x1024 := rfl

end Ins

end Cert.HeadShard
-- ==== Proof.Read.lean ====
/-
# The attention partial at an index

At the extended reals every element of an attention partial is a plain expression of a query row, the batch's rows and
the weights. This file writes that expression and reads the composition of `Attend.lean` as it.
-/
module

public import proofs.«01_k».proof.Proof.Attend

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-! ## The mathematics -/

/-- A query's scaled scores against the keys. -/
def scoreOf (q : Fin 128 → EReal) (k : Fin 256 → Fin 128 → EReal) (t : Fin 256) : EReal :=
  (∑ d : Fin 128, q d * k t d) * Ideal.ofBits .f32 0x3DB504F3#32

/-- The greatest of them. -/
def topOf (q : Fin 128 → EReal) (k : Fin 256 → Fin 128 → EReal) : EReal :=
  Finset.univ.fold max (Ideal.ofBits .f32 0xFF800000#32) fun t => scoreOf q k t

/-- The weight of key `t`, before it is divided by the sum of the weights. -/
def weightOf (q : Fin 128 → EReal) (k : Fin 256 → Fin 128 → EReal) (t : Fin 256) : EReal :=
  Ideal.exp (scoreOf q k t - topOf q k)

/-- Column `d` of a head: the values weighed by the softmax of the scores. -/
def headOf (q : Fin 128 → EReal) (k v : Fin 256 → Fin 128 → EReal) (d : Fin 128) : EReal :=
  Ideal.div (∑ t : Fin 256, weightOf q k t * v t d) (∑ t : Fin 256, weightOf q k t)

/-! ## The composition reads as it -/

theorem head_apply (q k v : FVec Ideal S256x128 .bf16) (r : Fin 256) (d : Fin 128) :
    head q k v (ix2 r d) = headOf (fun e => q (ix2 r e)) (fun t e => k (ix2 t e)) (fun t e => v (ix2 t e)) d := by
  pointwise [head, k0_pay14, headOf, weightOf, topOf, scoreOf]

theorem headHalf_apply (q : FVec Ideal S128x128 .bf16) (k v : FVec Ideal S256x128 .bf16) (r : Fin 128) (d : Fin 128) :
    headHalf q k v (ix2 r d) = headOf (fun e => q (ix2 r e)) (fun t e => k (ix2 t e)) (fun t e => v (ix2 t e)) d := by
  pointwise [headHalf, k0_pay75, headOf, weightOf, topOf, scoreOf]

/-- A sum over `a` blocks of `b` numbers, block by block. -/
theorem sum_blocks {n : ℕ} (a b : ℕ) (hn : n = a * b) (f : Fin n → EReal) :
    ∑ x : Fin n, f x = ∑ h : Fin a, ∑ d : Fin b, f ⟨b * h.val + d.val, by
      subst hn
      have h1 := Nat.mul_le_mul_left b (Nat.succ_le_of_lt h.isLt)
      have h2 := d.isLt
      rw [Nat.mul_succ] at h1
      rw [Nat.mul_comm a b]
      omega⟩ := by
  subst hn
  rw [← Fintype.sum_prod_type' (f := fun (h : Fin a) (d : Fin b) => f ⟨b * h.val + d.val, _⟩),
    ← Equiv.sum_comp finProdFinEquiv]
  refine Finset.sum_congr rfl fun p _ => congrArg f (Fin.ext ?_)
  simp only [finProdFinEquiv_apply_val]
  omega

/-- Eight numbers laid end to end in blocks of 128, read at column `d` of block `h`. -/
theorem ladder (f : Fin 8 → Fin 128 → EReal) (h : Fin 8) (d : Fin 128) (x : ℕ) (hx : x = 128 * h.val + d.val) :
    (if h : x < 128 then f 0 ⟨x, h⟩ else
      if h : x - 128 < 128 then f 1 ⟨x - 128, h⟩ else
      if h : x - 128 - 128 < 128 then f 2 ⟨x - 128 - 128, h⟩ else
      if h : x - 128 - 128 - 128 < 128 then f 3 ⟨x - 128 - 128 - 128, h⟩ else
      if h : x - 128 - 128 - 128 - 128 < 128 then f 4 ⟨x - 128 - 128 - 128 - 128, h⟩ else
      if h : x - 128 - 128 - 128 - 128 - 128 < 128 then f 5 ⟨x - 128 - 128 - 128 - 128 - 128, h⟩ else
      if h : x - 128 - 128 - 128 - 128 - 128 - 128 < 128 then f 6 ⟨x - 128 - 128 - 128 - 128 - 128 - 128, h⟩ else
      f 7 ⟨x - 128 - 128 - 128 - 128 - 128 - 128 - 128, by omega⟩) = f h d := by
  have hd := d.isLt
  have hh := h.isLt
  split_ifs
  all_goals exact congrArg₂ f (Fin.ext (by simp; omega)) (Fin.ext (by simp; omega))

theorem join_apply (o : FVec Ideal S1024x1024 .bf16) (f : Fin 8 → FVec Ideal S256x128 .f32) (r : Fin 256) (j : Fin 1024) :
    join o f (ix2 r j) = ∑ h : Fin 8, ∑ d : Fin 128, f h (ix2 r d) * o (ix2 ⟨128 * h.val + d.val, by omega⟩ j) := by
  pointwise [join]
  rw [sum_blocks 8 128 rfl]
  refine Finset.sum_congr rfl fun h _ => Finset.sum_congr rfl fun d _ => ?_
  exact congrArg (· * _) (ladder (fun h d => f h (ix2 r d)) h d _ rfl)

theorem joinHalf_apply (o : FVec Ideal S1024x1024 .bf16) (f : Fin 8 → FVec Ideal S128x128 .f32) (r : Fin 128) (j : Fin 1024) :
    joinHalf o f (ix2 r j) = ∑ h : Fin 8, ∑ d : Fin 128, f h (ix2 r d) * o (ix2 ⟨128 * h.val + d.val, by omega⟩ j) := by
  pointwise [joinHalf]
  rw [sum_blocks 8 128 rfl]
  refine Finset.sum_congr rfl fun h _ => Finset.sum_congr rfl fun d _ => ?_
  exact congrArg (· * _) (ladder (fun h d => f h (ix2 r d)) h d _ rfl)

end Cert.HeadShard
-- ==== Proof.Value.lean ====
/-
# What the output holds, row by row

Every device's contribution to row `i` of the output is one expression of its own weights and of the batch that row
lies in. The five parts of the kernel are rows of it, the sums along the exchange add the four devices' contributions,
and the spread hands the sums back: so the output of every device is the sum of the four contributions.
-/
module

public import proofs.«01_k».proof.Proof.Read
public import proofs.«01_k».proof.Proof.Storage

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-! ## One device's contribution -/

/-- Column `128 h + d`. -/
abbrev at128 (h : Fin 8) (d : Fin 128) : Fin 1024 := ⟨128 * h.val + d.val, by omega⟩

/-- Row `t` of the batch that row `i` lies in. -/
abbrev mate (i : Fin 1024) (t : Fin 256) : Fin 1024 := ⟨256 * (i.val / 256) + t.val, by omega⟩

/-- A row times column `j` of a matrix. -/
def projOf (x : Fin 1024 → EReal) (m : S1024x1024.Idx → EReal) (j : Fin 1024) : EReal := ∑ k : Fin 1024, x k * m (ix2 k j)

namespace Ins

variable (w : Ins Ideal)

/-- Row `i` of the tokens. -/
def rowOf (i : Fin 1024) (k : Fin 1024) : EReal := w.x (ix3 (⟨i.val / 256, by omega⟩ : Fin 4) (⟨i.val % 256, by omega⟩ : Fin 256) k)

/-- Column `d` of head `h` at row `i`. -/
def headAt (i : Fin 1024) (h : Fin 8) (d : Fin 128) : EReal :=
  headOf (fun e => projOf (w.rowOf i) w.wq (at128 h e)) (fun t e => projOf (w.rowOf (mate i t)) w.wk (at128 h e))
    (fun t e => projOf (w.rowOf (mate i t)) w.wv (at128 h e)) d

/-- The device's contribution to the output at row `i` and column `j`. -/
def share (i j : Fin 1024) : EReal := ∑ h : Fin 8, ∑ d : Fin 128, w.headAt i h d * w.wo (ix2 (at128 h d) j)

/-! ## The payloads at an index -/

theorem rows_apply (i k : Fin 1024) : w.rows (ix2 i k) = w.rowOf i k := by
  pointwise [rows, rowOf, k0_pay7, k0_pay6]

theorem down_ix2 {n : ℕ} (o : ℕ) (r : Fin n) (k : Fin 1024) :
    down o (ix2 r k) = ix2 (⟨(o + r.val) % 1024, Nat.mod_lt _ (by decide)⟩ : Fin 1024) k := by
  funext a
  match a with
  | ⟨0, _⟩ => rfl
  | ⟨1, _⟩ => rfl

theorem rowsAt_apply (n o : ℕ) (r : Fin n) (k : Fin 1024) (i : Fin 1024) (hi : i.val = o + r.val) :
    w.rowsAt n o (ix2 r k) = w.rowOf i k := by
  unfold rowsAt
  rw [down_ix2, ← rows_apply]
  congr 2
  exact Fin.ext (by show (o + r.val) % 1024 = i.val; omega)

theorem pay2_eq (m : S1024x1024.Idx → EReal) : k0_pay2 (F := Ideal) m = m := by
  funext i; pointwise [k0_pay2]
theorem pay3_eq (m : S1024x1024.Idx → EReal) : k0_pay3 (F := Ideal) m = m := pay2_eq m
theorem pay4_eq (m : S1024x1024.Idx → EReal) : k0_pay4 (F := Ideal) m = m := pay2_eq m
theorem pay5_eq (m : S1024x1024.Idx → EReal) : k0_pay5 (F := Ideal) m = m := pay2_eq m

/-- Head `h`'s columns of a batch's projection. -/
theorem cols_proj (m : S1024x1024.Idx → EReal) (z : S256x1024.Idx → EReal) (h : Fin 8) (t : Fin 256) (d : Fin 128) :
    cols (F := Ideal) h (k0_pay8 (F := Ideal) m z) (ix2 t d) = projOf (fun k => z (ix2 t k)) m (at128 h d) := by
  pointwise [cols, k0_pay8, projOf]

theorem colsHalf_proj (m : S1024x1024.Idx → EReal) (y : S128x1024.Idx → EReal) (h : Fin 8) (t : Fin 128) (d : Fin 128) :
    colsHalf (F := Ideal) h (k0_pay72 (F := Ideal) m y) (ix2 t d) = projOf (fun k => y (ix2 t k)) m (at128 h d) := by
  pointwise [colsHalf, k0_pay72, projOf]

/-- A whole batch's partial, row by row. -/
theorem batch_apply (R : ℕ) (r : Fin 256) (i j : Fin 1024) (hR : R % 256 = 0) (hi : i.val = R + r.val) :
    w.batch (w.rowsAt 256 R) (ix2 r j) = w.share i j := by
  have q : (fun k => w.rowsAt 256 R (ix2 r k)) = w.rowOf i := funext fun k => w.rowsAt_apply 256 R r k i hi
  have e : ∀ t : Fin 256, (fun k => w.rowsAt 256 R (ix2 t k)) = w.rowOf (mate i t) := fun t =>
    funext fun k => w.rowsAt_apply 256 R t k (mate i t) (by show 256 * (i.val / 256) + t.val = R + t.val; omega)
  unfold batch share headAt
  rw [join_apply]
  simp only [head_apply, cols_proj, Ins.q, Ins.k, Ins.v, Ins.o, pay2_eq, pay3_eq, pay4_eq, pay5_eq, q, e]

/-- Half a batch's, whose rows start `s` below the batch. -/
theorem half_apply (R s : ℕ) (r : Fin 128) (i j : Fin 1024) (hR : R % 256 = 0) (hs : s ≤ 128) (hi : i.val = R + s + r.val) :
    w.half (w.rowsAt 256 R) (w.rowsAt 128 (R + s)) (ix2 r j) = w.share i j := by
  have q : (fun k => w.rowsAt 128 (R + s) (ix2 r k)) = w.rowOf i := funext fun k => w.rowsAt_apply 128 (R + s) r k i hi
  have e : ∀ t : Fin 256, (fun k => w.rowsAt 256 R (ix2 t k)) = w.rowOf (mate i t) := fun t =>
    funext fun k => w.rowsAt_apply 256 R t k (mate i t) (by show 256 * (i.val / 256) + t.val = R + t.val; omega)
  unfold half share headAt
  rw [joinHalf_apply]
  simp only [headHalf_apply, cols_proj, colsHalf_proj, Ins.q, Ins.k, Ins.v, Ins.o, pay2_eq, pay3_eq, pay4_eq, pay5_eq, q, e]

end Ins

/-! ## The exchange -/

section Exchange

variable (I : Dev nD → Ins Ideal)

/-- Every batch starts at a multiple of 256. -/
theorem starts : ∀ c, (rLowGive c % 256 = 0 ∧ rHighGive c % 256 = 0) ∧ (rLowKeep c % 256 = 0 ∧ rHighKeep c % 256 = 0) := by decide

theorem sent0_apply (c : Dev nD) (r : Fin 256) (i j : Fin 1024) (hi : i.val = rLowGive c + r.val) :
    sent0 I c (ix3 0 r j) = (I c).share i j := by
  unfold sent0
  rw [Ins.sentA_eq]
  pointwise
  exact (I c).batch_apply _ r i j (starts c).1.1 hi

theorem sent1_apply (c : Dev nD) (r : Fin 256) (i j : Fin 1024) (hi : i.val = rHighGive c + r.val) :
    sent1 I c (ix3 0 r j) = (I c).share i j := by
  unfold sent1
  rw [Ins.sentB_eq]
  pointwise
  exact (I c).batch_apply _ r i j (starts c).1.2 hi

theorem sumC_apply (c : Dev nD) (r : Fin 256) (i j : Fin 1024) (hi : i.val = rLowKeep c + r.val) :
    sumC I c (ix2 r j) = (I c).share i j + (I (pa c)).share i j := by
  have h : sumC I c (ix2 r j) = partC I c (ix2 r j) + sent0 I (pa c) (ix3 0 r j) := by
    unfold sumC; generalize partC I c = a; generalize sent0 I (pa c) = b
    pointwise [k0_pay68]
  have e : ∀ c, rLowKeep c = rLowGive (pa c) := by decide
  rw [h, sent0_apply I (pa c) r i j (e c ▸ hi)]
  refine congrArg (· + _) ?_
  unfold partC
  rw [Ins.partC_eq]
  exact (I c).batch_apply _ r i j (starts c).2.1 hi

theorem sent2_apply (c : Dev nD) (r : Fin 256) (i j : Fin 1024) (hi : i.val = rLowKeep c + r.val) :
    sent2 I c (ix3 0 r j) = (I c).share i j + (I (pa c)).share i j := by
  rw [← sumC_apply I c r i j hi]
  unfold sent2
  generalize sumC I c = a
  pointwise [k0_pay69]

theorem sent1_half (c : Dev nD) (s : ℕ) (hs : s ≤ 128) (r : Fin 128) (i j : Fin 1024) (hi : i.val = rHighGive c + s + r.val) :
    sent1 I c (halfIn s (ix3 0 r j)) = (I c).share i j := by
  have h : halfIn s (ix3 0 r j) = ix3 0 (⟨s + r.val, by omega⟩ : Fin 256) j := by
    funext a
    match a with
    | ⟨0, _⟩ => rfl
    | ⟨1, _⟩ => exact Fin.ext (Nat.mod_eq_of_lt (by show s + r.val < 256; omega))
    | ⟨2, _⟩ => rfl
  rw [h]
  exact sent1_apply I c _ i j (by show i.val = rHighGive c + (s + r.val); omega)

theorem sumD_apply (c : Dev nD) (r : Fin 128) (i j : Fin 1024) (hi : i.val = rHighKeep c + r.val) :
    sumD I c (ix2 r j) = (I c).share i j + (I (pb c)).share i j := by
  have h : sumD I c (ix2 r j) = partD I c (ix2 r j) + sent1 I (pb c) (halfIn 0 (ix3 0 r j)) := by
    unfold sumD; generalize partD I c = a; generalize sent1 I (pb c) = b
    pointwise [k0_pay84]
  have e : ∀ c, rHighKeep c = rHighGive (pb c) := by decide
  rw [h, sent1_half I (pb c) 0 (by decide) r i j (by rw [← e]; exact hi)]
  refine congrArg (· + _) ?_
  unfold partD
  rw [Ins.partD_eq]
  exact (I c).half_apply _ 0 r i j (starts c).2.2 (by decide) hi

theorem sumE_apply (c : Dev nD) (r : Fin 128) (i j : Fin 1024) (hi : i.val = rHighKeep c + 128 + r.val) :
    sumE I c (ix2 r j) = (I c).share i j + (I (pb c)).share i j := by
  have h : sumE I c (ix2 r j) = partE I c (ix2 r j) + sent1 I (pb c) (halfIn 128 (ix3 0 r j)) := by
    unfold sumE; generalize partE I c = a; generalize sent1 I (pb c) = b
    pointwise [k0_pay101]
  have e : ∀ c, rHighKeep c = rHighGive (pb c) := by decide
  rw [h, sent1_half I (pb c) 128 (by decide) r i j (by rw [← e]; exact hi)]
  refine congrArg (· + _) ?_
  unfold partE
  rw [Ins.partE_eq]
  exact (I c).half_apply _ 128 r i j (starts c).2.2 (by decide) hi

theorem sent3_apply (c : Dev nD) (r : Fin 128) (i j : Fin 1024) (hi : i.val = rHighKeep c + r.val) :
    sent3 I c (ix3 0 r j) = (I c).share i j + (I (pb c)).share i j := by
  rw [← sumD_apply I c r i j hi]
  unfold sent3 sumD
  generalize partD I c = a; generalize sent1 I (pb c) = b
  pointwise [k0_pay84, k0_pay85]

theorem sent6_apply (c : Dev nD) (r : Fin 128) (i j : Fin 1024) (hi : i.val = rHighKeep c + 128 + r.val) :
    sent6 I c (ix3 0 r j) = (I c).share i j + (I (pb c)).share i j := by
  rw [← sumE_apply I c r i j hi]
  unfold sent6 sumE
  generalize partE I c = a; generalize sent1 I (pb c) = b
  pointwise [k0_pay101, k0_pay102, k0_pay103]

/-- The four devices' contributions together. -/
def total (i j : Fin 1024) : EReal := ∑ d : Dev nD, (I d).share i j

/-- A device, its two neighbours and the one across are the four devices. -/
theorem four (f : Dev nD → EReal) (c : Dev nD) : (f c + f (pa c)) + (f (pb c) + f (pa (pb c))) = ∑ d : Dev nD, f d := by
  have h : ∑ d : Dev nD, f d = f 0 + f 1 + f 2 + f 3 := Fin.sum_univ_four f
  rw [h]
  match c with
  | ⟨0, _⟩ => show (f 0 + f 1) + (f 3 + f 2) = _; ac_rfl
  | ⟨1, _⟩ => show (f 1 + f 0) + (f 2 + f 3) = _; ac_rfl
  | ⟨2, _⟩ => show (f 2 + f 3) + (f 1 + f 0) = _; ac_rfl
  | ⟨3, _⟩ => show (f 3 + f 2) + (f 0 + f 1) = _; ac_rfl

/-- The same with the neighbours met in the other order. -/
theorem four' (f : Dev nD → EReal) (c : Dev nD) : (f c + f (pb c)) + (f (pa c) + f (pb (pa c))) = ∑ d : Dev nD, f d := by
  have e : ∀ c, pb (pa c) = pa (pb c) := by decide
  rw [← four f c, e]
  ac_rfl

theorem outC_apply (c : Dev nD) (r : Fin 256) (i j : Fin 1024) (hi : i.val = rLowKeep c + r.val) :
    outC I c (ix2 r j) = total I i j := by
  have e : ∀ c, rLowKeep c = rLowKeep (pb c) := by decide
  have h : outC I c (ix2 r j) = sumC I c (ix2 r j) + sent2 I (pb c) (ix3 0 r j) := by
    unfold outC; generalize sumC I c = a; generalize sent2 I (pb c) = b
    pointwise [k0_pay104]
  rw [h, sumC_apply I c r i j hi, sent2_apply I (pb c) r i j (e c ▸ hi)]
  exact four (fun d => (I d).share i j) c

theorem sent4_apply (c : Dev nD) (r : Fin 256) (i j : Fin 1024) (hi : i.val = rLowKeep c + r.val) :
    sent4 I c (ix3 0 r j) = total I i j := by
  rw [← outC_apply I c r i j hi]
  unfold sent4 outC
  generalize sumC I c = a; generalize sent2 I (pb c) = b
  pointwise [k0_pay104, k0_pay105]

theorem outD_apply (c : Dev nD) (r : Fin 128) (i j : Fin 1024) (hi : i.val = rHighKeep c + r.val) :
    outD I c (ix2 r j) = total I i j := by
  have e : ∀ c, rHighKeep c = rHighKeep (pa c) := by decide
  have h : outD I c (ix2 r j) = sumD I c (ix2 r j) + sent3 I (pa c) (ix3 0 r j) := by
    unfold outD; generalize sumD I c = a; generalize sent3 I (pa c) = b
    pointwise [k0_pay106]
  rw [h, sumD_apply I c r i j hi, sent3_apply I (pa c) r i j (e c ▸ hi)]
  exact four' (fun d => (I d).share i j) c

theorem sent5_apply (c : Dev nD) (r : Fin 128) (i j : Fin 1024) (hi : i.val = rHighKeep c + r.val) :
    sent5 I c (ix3 0 r j) = total I i j := by
  rw [← outD_apply I c r i j hi]
  unfold sent5 outD
  generalize sumD I c = a; generalize sent3 I (pa c) = b
  pointwise [k0_pay106, k0_pay107]

theorem outE_apply (c : Dev nD) (r : Fin 128) (i j : Fin 1024) (hi : i.val = rHighKeep c + 128 + r.val) :
    outE I c (ix2 r j) = total I i j := by
  have e : ∀ c, rHighKeep c = rHighKeep (pa c) := by decide
  have h : outE I c (ix2 r j) = sumE I c (ix2 r j) + sent6 I (pa c) (ix3 0 r j) := by
    unfold outE; generalize sumE I c = a; generalize sent6 I (pa c) = b
    pointwise [k0_pay108]
  rw [h, sumE_apply I c r i j hi, sent6_apply I (pa c) r i j (e c ▸ hi)]
  exact four' (fun d => (I d).share i j) c

theorem sent7_apply (c : Dev nD) (r : Fin 128) (i j : Fin 1024) (hi : i.val = rHighKeep c + 128 + r.val) :
    sent7 I c (ix3 0 r j) = total I i j := by
  rw [← outE_apply I c r i j hi]
  unfold sent7 outE
  generalize sumE I c = a; generalize sent6 I (pa c) = b
  pointwise [k0_pay108, k0_pay109, k0_pay110]

theorem outA_apply (c : Dev nD) (r : Fin 256) (i j : Fin 1024) (hi : i.val = rLowGive c + r.val) :
    outA I c (ix2 r j) = total I i j := by
  have e : ∀ c, rLowGive c = rLowKeep (pa c) := by decide
  rw [← sent4_apply I (pa c) r i j (e c ▸ hi)]
  unfold outA
  generalize sent4 I (pa c) = a
  pointwise [k0_pay111]

theorem outB_apply (c : Dev nD) (r : Fin 256) (i j : Fin 1024) (hi : i.val = rHighGive c + r.val) :
    outB I c (ix2 r j) = total I i j := by
  have e : ∀ c, rHighGive c = rHighKeep (pb c) := by decide
  have h : outB I c (ix2 r j) = stack (sent5 I (pb c)) (sent7 I (pb c)) (ix3 0 r j) := by
    unfold outB
    generalize stack (sent5 I (pb c)) (sent7 I (pb c)) = a
    pointwise [k0_pay1]
  rw [h]
  unfold stack
  split_ifs with hr
  · have hr' : r.val < 128 := hr
    rw [← sent5_apply I (pb c) ⟨r.val, hr'⟩ i j (by rw [← e]; exact hi)]
    refine congrArg _ (funext fun a => ?_)
    match a with
    | ⟨0, _⟩ => rfl
    | ⟨1, _⟩ => exact Fin.ext (Nat.mod_eq_of_lt hr')
    | ⟨2, _⟩ => rfl
  · have hr' : ¬ r.val < 128 := hr
    rw [← sent7_apply I (pb c) ⟨r.val - 128, by omega⟩ i j (by rw [← e]; show i.val = rHighGive c + 128 + (r.val - 128); omega)]
    refine congrArg _ (funext fun a => ?_)
    match a with
    | ⟨0, _⟩ => rfl
    | ⟨1, _⟩ => exact Fin.ext (by show r.val % 128 = r.val - 128; omega)
    | ⟨2, _⟩ => rfl

/-- **The output of every device at row `i` and column `j` is the sum of the four contributions there.** -/
theorem outAt_apply (c : Dev nD) (i j : Fin 1024) : outAt I c (ix2 i j) = total I i j := by
  have key : ∀ (t : Fin 5) (x : Shape.Idx ⟨2, rowSize t⟩), i.val = rowOff c t 0 + (x 0).val → (x 1).val = j.val →
      rowsEnd I c t x = total I i j := by
    intro t x h0 h1
    match t, x with
    | ⟨0, _⟩, x =>
      obtain ⟨a, b, rfl⟩ : ∃ (a : Fin 256) (b : Fin 1024), x = ix2 a b := ⟨x 0, x 1, eq_ix2 x⟩
      obtain rfl : b = j := Fin.ext h1
      exact outA_apply I c a i b h0
    | ⟨1, _⟩, x =>
      obtain ⟨a, b, rfl⟩ : ∃ (a : Fin 256) (b : Fin 1024), x = ix2 a b := ⟨x 0, x 1, eq_ix2 x⟩
      obtain rfl : b = j := Fin.ext h1
      exact outB_apply I c a i b h0
    | ⟨2, _⟩, x =>
      obtain ⟨a, b, rfl⟩ : ∃ (a : Fin 256) (b : Fin 1024), x = ix2 a b := ⟨x 0, x 1, eq_ix2 x⟩
      obtain rfl : b = j := Fin.ext h1
      exact outC_apply I c a i b h0
    | ⟨3, _⟩, x =>
      obtain ⟨a, b, rfl⟩ : ∃ (a : Fin 128) (b : Fin 1024), x = ix2 a b := ⟨x 0, x 1, eq_ix2 x⟩
      obtain rfl : b = j := Fin.ext h1
      exact outD_apply I c a i b h0
    | ⟨4, _⟩, x =>
      obtain ⟨a, b, rfl⟩ : ∃ (a : Fin 128) (b : Fin 1024), x = ix2 a b := ⟨x 0, x 1, eq_ix2 x⟩
      obtain rfl : b = j := Fin.ext h1
      exact outE_apply I c a i b h0
  refine key _ (inBlock c (ix2 i j)) ?_ rfl
  have h := blockOf_spec c i.val i.isLt
  show i.val = rowOff c (blockOf c i.val) 0 + (i.val - rowOff c (blockOf c i.val) 0)
  omega

end Exchange

end Cert.HeadShard
-- ==== Proof.Reference.lean ====
/-
# The reference at an index

The reference is plain attention over all 32 heads, written with a running maximum and a running sum that see one block of
keys only: the first maximum is −∞, the first sum and the first output are zero, so both corrections vanish at the extended
reals. This file names the reference's stages and reads each at an index.
-/
module

public import proofs.«01_k».proof.Proof.Read
public import proofs.«01_k».proof.Proof.Gen.ReferenceIdeal
public import proofs.«01_k».proof.Proof.Gen.ReferenceIdeal.Run

@[expose] public section

noncomputable section

namespace Cert.HeadShard.Reference

open Cert.ReferenceIdeal Cert.ReferenceIdeal.Gen
open Idealize.ShloMosaic Idealize.ShloMosaic.TcCoe
open scoped BigOperators

/-! ## The stages -/

/-- A projection, cut into heads. -/
def proj (x : FVec Ideal S4x256x1024 .f32) (w : FVec Ideal S1024x4096 .f32) : FVec Ideal S4x256x32x128 .f32 :=
  shapeCast S4x256x32x128 (Host.dotGeneral dot_S4x256x1024_S1024x4096_S4x256x4096_2_0_01_1_n_n none x w)
    shapeCasts_S4x256x4096_S4x256x32x128

/-- The scaled scores. -/
def scores (q k : FVec Ideal S4x256x32x128 .f32) : FVec Ideal S4x32x256x256 .f32 :=
  mulf (Host.dotGeneral dot_S4x256x32x128_S4x256x32x128_S4x32x256x256_3_3_1_1_02_02 none q k)
    (broadcastInDim S4x32x256x256 ![] bcast_S_S4x32x256x256 (constant S_ .f32 0x3DB504F3#32))

/-- The maximum before the first block. -/
def lowest : FVec Ideal S4x32x256x1 .f32 := broadcastInDim S4x32x256x1 ![] bcast_S_S4x32x256x1 (constant S_ .f32 0xFF800000#32)

/-- The maximum after it. -/
def top (s : FVec Ideal S4x32x256x256 .f32) : FVec Ideal S4x32x256x1 .f32 :=
  maximumf lowest (broadcastInDim S4x32x256x1 ![0, 1, 2] bcast_S4x32x256_S4x32x256x1_0_1_2
    (Host.reduce FloatOps.maximumf s (constant S_ .f32 0xFF800000#32) reducesTo_S4x32x256x256_S4x32x256_d3 h_S_))

/-- What the earlier sum and output are scaled by. -/
def scale (s : FVec Ideal S4x32x256x256 .f32) : FVec Ideal S4x32x256x1 .f32 := Host.exp (subf lowest (top s))

/-- The weights of the block. -/
def weights (s : FVec Ideal S4x32x256x256 .f32) : FVec Ideal S4x32x256x256 .f32 :=
  Host.exp (subf s (broadcastInDim S4x32x256x256 ![0, 1, 2, 3] bcast_S4x32x256x1_S4x32x256x256_0_1_2_3 (top s)))

/-- The running sum. -/
def total (s : FVec Ideal S4x32x256x256 .f32) : FVec Ideal S4x32x256x1 .f32 :=
  addf (mulf (broadcastInDim S4x32x256x1 ![] bcast_S_S4x32x256x1 (constant S_ .f32 0x00000000#32)) (scale s))
    (broadcastInDim S4x32x256x1 ![0, 1, 2] bcast_S4x32x256_S4x32x256x1_0_1_2
      (Host.reduceAdd (weights s) (constant S_ .f32 0x00000000#32) reducesTo_S4x32x256x256_S4x32x256_d3 h_S_))

/-- The running output. -/
def output (s : FVec Ideal S4x32x256x256 .f32) (v : FVec Ideal S4x256x32x128 .f32) : FVec Ideal S4x256x32x128 .f32 :=
  addf (mulf (broadcastInDim S4x256x32x128 ![] bcast_S_S4x256x32x128 (constant S_ .f32 0x00000000#32))
      (broadcastInDim S4x256x32x128 ![0, 1, 2, 3] bcast_S4x256x32x1_S4x256x32x128_0_1_2_3
        (transpose S4x256x32x1 [0, 2, 1, 3] (scale s) transposes_S4x32x256x1_S4x256x32x1_0_2_1_3)))
    (transpose S4x256x32x128 [0, 3, 1, 2]
      (Host.dotGeneral dot_S4x256x32x128_S4x32x256x256_S4x32x128x256_1_3_3_2_02_01 none v (weights s))
      transposes_S4x32x128x256_S4x256x32x128_0_3_1_2)

/-- The heads' results. -/
def heads (s : FVec Ideal S4x32x256x256 .f32) (v : FVec Ideal S4x256x32x128 .f32) : FVec Ideal S4x256x32x128 .f32 :=
  Host.divf (output s v) (broadcastInDim S4x256x32x128 ![0, 1, 2, 3] bcast_S4x256x32x1_S4x256x32x128_0_1_2_3
    (transpose S4x256x32x1 [0, 2, 1, 3] (total s) transposes_S4x32x256x1_S4x256x32x1_0_2_1_3))

/-- The heads side by side times the output weights. -/
def final (h : FVec Ideal S4x256x32x128 .f32) (o : FVec Ideal S4096x1024 .f32) : FVec Ideal S1024x1024 .f32 :=
  shapeCast S1024x1024 (Host.dotGeneral dot_S4x256x4096_S4096x1024_S4x256x1024_2_0_01_1_n_n none
    (shapeCast S4x256x4096 h shapeCasts_S4x256x32x128_S4x256x4096) o) shapeCasts_S4x256x1024_S1024x1024

/-- The reference's result is the composition of the stages. -/
theorem result_eq (m : (ℓ : Loc nD τ sig) → Buf (Elt Ideal) ℓ) (c : Dev nD) :
    Value.res_main_v35 m c = final
      (heads (scores (proj (m ((c.tc : Thread nD τ).loc main_arg0)) (m ((c.tc : Thread nD τ).loc main_arg1)))
          (proj (m ((c.tc : Thread nD τ).loc main_arg0)) (m ((c.tc : Thread nD τ).loc main_arg2))))
        (proj (m ((c.tc : Thread nD τ).loc main_arg0)) (m ((c.tc : Thread nD τ).loc main_arg3))))
      (m ((c.tc : Thread nD τ).loc main_arg4)) := rfl

/-! ## Each stage at an index -/

/-- Column `e` of global head `h`. -/
abbrev wide (h : Fin 32) (e : Fin 128) : Fin 4096 := ⟨128 * h.val + e.val, by omega⟩

theorem proj_apply (x : FVec Ideal S4x256x1024 .f32) (w : FVec Ideal S1024x4096 .f32) (b : Fin 4) (t : Fin 256) (h : Fin 32)
    (e : Fin 128) : proj x w (ix4 b t h e) = ∑ k : Fin 1024, x (ix3 b t k) * w (ix2 k (wide h e)) := by
  pointwise [proj]
  refine Finset.sum_congr rfl fun k _ => congrArg (fun y => _ * w (ix2 k y)) (Fin.ext ?_)
  exact congrArg (· + _) (Nat.mul_comm _ _)

theorem scores_apply (q k : FVec Ideal S4x256x32x128 .f32) (b : Fin 4) (h : Fin 32) (r t : Fin 256) :
    scores q k (ix4 b h r t) = scoreOf (fun e => q (ix4 b r h e)) (fun t e => k (ix4 b t h e)) t := by
  pointwise [scores, scoreOf]

/-- A maximum that starts from `a` is at least `a`. -/
theorem max_fold {n : ℕ} (a : EReal) (f : Fin n → EReal) : max a (Finset.univ.fold max a f) = Finset.univ.fold max a f :=
  max_eq_right ((Finset.le_fold_max a).2 (Or.inl le_rfl))

theorem row_reduces : S4x32x256x256.Reduces [3] S4x32x256 := by decide

/-- A row's index with a column put in. -/
theorem row_lift (b : Fin 4) (h : Fin 32) (r t : Fin 256) : row_reduces.lift (ix3 b h r) t = ix4 b h r t := by
  funext a
  match a with
  | ⟨0, _⟩ => exact Fin.ext rfl
  | ⟨1, _⟩ => exact Fin.ext rfl
  | ⟨2, _⟩ => exact Fin.ext rfl
  | ⟨3, _⟩ => exact Fin.ext rfl

/-- The largest entry of a row, from any start. -/
theorem row_max (s : FVec Ideal S4x32x256x256 .f32) (u : FVec Ideal S_ .f32) (b : Fin 4) (h : Fin 32) (r : Fin 256) :
    Host.reduce FloatOps.maximumf s u reducesTo_S4x32x256x256_S4x32x256_d3 h_S_ (ix3 b h r)
      = Finset.univ.fold (FloatOps.maximumf (F := Ideal) (φ := .f32)) (u (Shape.Idx.first h_S_)) fun t : Fin 256 => s (ix4 b h r t) := by
  rw [Host.reduce_eq_fold_single FloatOps.maximumf s u _ row_reduces h_S_]
  have e : (s ∘ row_reduces.lift (ix3 b h r)) = fun t : Fin 256 => s (ix4 b h r t) := funext fun t => congrArg s (row_lift b h r t)
  exact congrArg (fun f => Finset.fold _ _ f (Finset.univ : Finset (Fin 256))) e

/-- The maximum of a start and a value kept per row. -/
theorem top_read (l : FVec Ideal S4x32x256x1 .f32) (g : FVec Ideal S4x32x256 .f32) (b : Fin 4) (h : Fin 32) (r : Fin 256) :
    maximumf l (broadcastInDim S4x32x256x1 ![0, 1, 2] bcast_S4x32x256_S4x32x256x1_0_1_2 g) (ix4 b h r 0)
      = max (l (ix4 b h r 0)) (g (ix3 b h r)) := by
  pointwise

theorem top_apply (s : FVec Ideal S4x32x256x256 .f32) (b : Fin 4) (h : Fin 32) (r : Fin 256) :
    top s (ix4 b h r 0) = Finset.univ.fold max (Ideal.ofBits .f32 0xFF800000#32) fun t => s (ix4 b h r t) := by
  refine (top_read _ _ b h r).trans ?_
  rw [row_max]
  exact max_fold (Ideal.ofBits .f32 0xFF800000#32) _

theorem weights_apply (s : FVec Ideal S4x32x256x256 .f32) (b : Fin 4) (h : Fin 32) (r t : Fin 256) :
    weights s (ix4 b h r t) = Ideal.exp (s (ix4 b h r t) - top s (ix4 b h r 0)) := by
  unfold weights
  generalize top s = a
  pointwise

theorem total_apply (s : FVec Ideal S4x32x256x256 .f32) (b : Fin 4) (h : Fin 32) (r : Fin 256) :
    total s (ix4 b h r 0) = ∑ t : Fin 256, weights s (ix4 b h r t) := by
  unfold total
  generalize scale s = a
  generalize weights s = u
  pointwise
  rw [zero_mul, zero_add]

theorem output_apply (s : FVec Ideal S4x32x256x256 .f32) (v : FVec Ideal S4x256x32x128 .f32) (b : Fin 4) (h : Fin 32)
    (r : Fin 256) (d : Fin 128) : output s v (ix4 b r h d) = ∑ t : Fin 256, weights s (ix4 b h r t) * v (ix4 b t h d) := by
  unfold output
  generalize scale s = a
  generalize weights s = u
  pointwise
  rw [zero_mul, zero_add]
  exact Finset.sum_congr rfl fun t _ => mul_comm _ _

theorem heads_apply (q k v : FVec Ideal S4x256x32x128 .f32) (b : Fin 4) (h : Fin 32) (r : Fin 256) (d : Fin 128) :
    heads (scores q k) v (ix4 b r h d)
      = headOf (fun e => q (ix4 b r h e)) (fun t e => k (ix4 b t h e)) (fun t e => v (ix4 b t h e)) d := by
  have e : heads (scores q k) v (ix4 b r h d) = Ideal.div (output (scores q k) v (ix4 b r h d)) (total (scores q k) (ix4 b h r 0)) := by
    unfold heads
    generalize output (scores q k) v = a
    generalize total (scores q k) = u
    pointwise
  rw [e, output_apply, total_apply]
  simp only [weights_apply, top_apply, scores_apply]
  rfl

theorem final_apply (f : FVec Ideal S4x256x32x128 .f32) (o : FVec Ideal S4096x1024 .f32) (i j : Fin 1024) :
    final f o (ix2 i j) = ∑ h : Fin 32, ∑ d : Fin 128,
      f (ix4 (⟨i.val / 256, by omega⟩ : Fin 4) (⟨i.val % 256, by omega⟩ : Fin 256) h d) * o (ix2 (wide h d) j) := by
  pointwise [final]
  rw [sum_blocks 32 128 rfl]
  refine Finset.sum_congr rfl fun h _ => Finset.sum_congr rfl fun d _ => congrArg (· * _) ?_
  have hh : (⟨(128 * h.val + d.val) / 128, by omega⟩ : Fin 32) = h := Fin.ext (by show (128 * h.val + d.val) / 128 = h.val; omega)
  have hd : (⟨(128 * h.val + d.val) % 128, by omega⟩ : Fin 128) = d := Fin.ext (by show (128 * h.val + d.val) % 128 = d.val; omega)
  exact congrArg₂ (fun a b => f (ix4 _ _ a b)) hh hd

end Cert.HeadShard.Reference
-- ==== Proof.Equation.lean ====
/-
# The kernel's values are the reference's

Device `c` holds eight of the 32 heads: its columns of the three projections and its rows of the output weights are the
whole arrays' at global head `8 c + h`. So its contribution to an output entry is the reference's sum over those eight
heads, and the four contributions together are the reference's sum over all 32.
-/
module

public import proofs.«01_k».proof.Defs
public import proofs.«01_k».proof.Proof.Frames
public import proofs.«01_k».proof.Proof.Value
public import proofs.«01_k».proof.Proof.Reference

@[expose] public section

noncomputable section

namespace Cert.HeadShard

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

open Cert.HeadShard.Reference (wide proj scores heads final proj_apply heads_apply final_apply)

/-! ## The slices a device holds -/

/-- Head `h` of device `c` among all 32. -/
abbrev headOn (c : Fin 4) (h : Fin 8) : Fin 32 := ⟨8 * c.val + h.val, by omega⟩

/-- A device's columns of a projection matrix. -/
theorem colsOn (c : Fin 4) (v : (⟨2, ![1024, 4096]⟩ : Shape).Idx → EReal) (k : Fin 1024) (h : Fin 8) (e : Fin 128) :
    Layout.block ⟨2, ![1024, 1024]⟩ ⟨2, ![1024, 4096]⟩ 1 4 c v (by decide) (ix2 k (at128 h e)) = v (ix2 k (wide (headOn c h) e)) := by
  rw [Layout.block_apply]
  refine congrArg v (funext fun a => ?_)
  match a with
  | ⟨0, _⟩ => exact Fin.ext rfl
  | ⟨1, _⟩ => exact Fin.ext (by show c.val * 1024 + (128 * h.val + e.val) = 128 * (8 * c.val + h.val) + e.val; omega)

/-- A device's rows of the output matrix. -/
theorem rowsOn (c : Fin 4) (v : (⟨2, ![4096, 1024]⟩ : Shape).Idx → EReal) (h : Fin 8) (d : Fin 128) (j : Fin 1024) :
    Layout.block ⟨2, ![1024, 1024]⟩ ⟨2, ![4096, 1024]⟩ 0 4 c v (by decide) (ix2 (at128 h d) j) = v (ix2 (wide (headOn c h) d) j) := by
  rw [Layout.block_apply]
  refine congrArg v (funext fun a => ?_)
  match a with
  | ⟨0, _⟩ => exact Fin.ext (by show c.val * 1024 + (128 * h.val + d.val) = 128 * (8 * c.val + h.val) + d.val; omega)
  | ⟨1, _⟩ => exact Fin.ext rfl

/-- The batch a row lies in, and its place there. -/
abbrev batchOf (i : Fin 1024) : Fin 4 := ⟨i.val / 256, by omega⟩
abbrev placeOf (i : Fin 1024) : Fin 256 := ⟨i.val % 256, by omega⟩

theorem batch_mate (i : Fin 1024) (t : Fin 256) : batchOf (mate i t) = batchOf i :=
  Fin.ext (by show (256 * (i.val / 256) + t.val) / 256 = i.val / 256; omega)
theorem place_mate (i : Fin 1024) (t : Fin 256) : placeOf (mate i t) = t :=
  Fin.ext (by show (256 * (i.val / 256) + t.val) % 256 = t.val; omega)

/-! ## One device's contribution, in the reference's terms -/

section Devices

variable (X : (⟨3, ![4, 256, 1024]⟩ : Shape).Idx → EReal) (Wq Wk Wv : (⟨2, ![1024, 4096]⟩ : Shape).Idx → EReal)
  (Wo : (⟨2, ![4096, 1024]⟩ : Shape).Idx → EReal) (I : Dev nD → Ins Ideal)

/-- Every device holds the tokens and its slices of the weights. -/
structure Holds : Prop where
  x : ∀ c : Dev nD, (I c).x = X
  wq : ∀ c : Dev nD, (I c).wq = Layout.block ⟨2, ![1024, 1024]⟩ ⟨2, ![1024, 4096]⟩ 1 4 c Wq (by decide)
  wk : ∀ c : Dev nD, (I c).wk = Layout.block ⟨2, ![1024, 1024]⟩ ⟨2, ![1024, 4096]⟩ 1 4 c Wk (by decide)
  wv : ∀ c : Dev nD, (I c).wv = Layout.block ⟨2, ![1024, 1024]⟩ ⟨2, ![1024, 4096]⟩ 1 4 c Wv (by decide)
  wo : ∀ c : Dev nD, (I c).wo = Layout.block ⟨2, ![1024, 1024]⟩ ⟨2, ![4096, 1024]⟩ 0 4 c Wo (by decide)

/-- A projection on a device is the whole projection at the device's heads. -/
theorem proj_on (w : Ins Ideal) (hx : w.x = X) (W : (⟨2, ![1024, 4096]⟩ : Shape).Idx → EReal) (m : S1024x1024.Idx → EReal) (c : Dev nD)
    (hm : m = Layout.block ⟨2, ![1024, 1024]⟩ ⟨2, ![1024, 4096]⟩ 1 4 c W (by decide)) (i : Fin 1024) (h : Fin 8) (e : Fin 128) :
    projOf (w.rowOf i) m (at128 h e) = proj X W (ix4 (batchOf i) (placeOf i) (headOn c h) e) := by
  refine Eq.trans ?_ (proj_apply X W (batchOf i) (placeOf i) (headOn c h) e).symm
  refine Finset.sum_congr rfl fun k _ => ?_
  subst hx hm
  exact congrArg (fun z => _ * z) (colsOn c W k h e)

theorem proj_mate (w : Ins Ideal) (hx : w.x = X) (W : (⟨2, ![1024, 4096]⟩ : Shape).Idx → EReal) (m : S1024x1024.Idx → EReal) (c : Dev nD)
    (hm : m = Layout.block ⟨2, ![1024, 1024]⟩ ⟨2, ![1024, 4096]⟩ 1 4 c W (by decide)) (i : Fin 1024) (t : Fin 256) (h : Fin 8)
    (e : Fin 128) : projOf (w.rowOf (mate i t)) m (at128 h e) = proj X W (ix4 (batchOf i) t (headOn c h) e) := by
  rw [proj_on X w hx W m c hm (mate i t) h e, batch_mate, place_mate]

variable {X Wq Wk Wv Wo I}

theorem head_on (hI : Holds X Wq Wk Wv Wo I) (c : Dev nD) (i : Fin 1024) (h : Fin 8) (d : Fin 128) :
    (I c).headAt i h d
      = heads (scores (proj X Wq) (proj X Wk)) (proj X Wv) (ix4 (batchOf i) (placeOf i) (headOn c h) d) := by
  refine Eq.trans ?_ (heads_apply (proj X Wq) (proj X Wk) (proj X Wv) (batchOf i) (headOn c h) (placeOf i) d).symm
  unfold Ins.headAt
  have q : (fun e => projOf ((I c).rowOf i) (I c).wq (at128 h e)) = fun e => proj X Wq (ix4 (batchOf i) (placeOf i) (headOn c h) e) :=
    funext fun e => proj_on X (I c) (hI.x c) Wq (I c).wq c (hI.wq c) i h e
  have k : (fun t e => projOf ((I c).rowOf (mate i t)) (I c).wk (at128 h e)) = fun t e => proj X Wk (ix4 (batchOf i) t (headOn c h) e) :=
    funext fun t => funext fun e => proj_mate X (I c) (hI.x c) Wk (I c).wk c (hI.wk c) i t h e
  have v : (fun t e => projOf ((I c).rowOf (mate i t)) (I c).wv (at128 h e)) = fun t e => proj X Wv (ix4 (batchOf i) t (headOn c h) e) :=
    funext fun t => funext fun e => proj_mate X (I c) (hI.x c) Wv (I c).wv c (hI.wv c) i t h e
  rw [q, k, v]

theorem share_on (hI : Holds X Wq Wk Wv Wo I) (c : Dev nD) (i j : Fin 1024) :
    (I c).share i j = ∑ h : Fin 8, ∑ d : Fin 128,
      heads (scores (proj X Wq) (proj X Wk)) (proj X Wv) (ix4 (batchOf i) (placeOf i) (headOn c h) d) * Wo (ix2 (wide (headOn c h) d) j) := by
  unfold Ins.share
  refine Finset.sum_congr rfl fun h _ => Finset.sum_congr rfl fun d _ => ?_
  rw [head_on hI c i h d, hI.wo c]
  exact congrArg (fun z => _ * z) (rowsOn c Wo h d j)

/-- The four contributions are the reference's output. -/
theorem out_eq (hI : Holds X Wq Wk Wv Wo I) (c : Dev nD) :
    outAt I c = final (heads (scores (proj X Wq) (proj X Wk)) (proj X Wv)) Wo := by
  funext y
  obtain ⟨i, j, rfl⟩ : ∃ i j : Fin 1024, y = ix2 i j := ⟨y 0, y 1, eq_ix2 y⟩
  refine (outAt_apply I c i j).trans (Eq.trans ?_ (final_apply _ Wo i j).symm)
  rw [sum_blocks 4 8 rfl]
  exact Finset.sum_congr rfl fun d _ => share_on hI d i j

end Devices

/-! ## The claim -/

/-- The kernel computes the reference's values at the extended reals. -/
theorem algebraic : Cert.algebraic_KernelIdeal_ReferenceIdeal := by
  intro m g m' g' _ h
  have hI : Holds (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (ins m g) :=
    ⟨fun c => (ins_x m g c).trans (h c).1, fun c => (ins_wq m g c).trans (h c).2.1, fun c => (ins_wk m g c).trans (h c).2.2.1,
      fun c => (ins_wv m g c).trans (h c).2.2.2.1, fun c => (ins_wo m g c).trans (h c).2.2.2.2⟩
  refine ⟨Cert.ReferenceIdeal.Value.res_main_v35 m' 0, ?_, ?_⟩
  · exact (θ_run Cert.KernelIdeal.defs _ _).mono
      (fun _ hr c => ⟨(hr.1 c).1.trans ((out_eq hI c).trans (Reference.result_eq m' 0).symm), (hr.1 c).2⟩) (run_values (F := Ideal) m g)
  · exact (θ_run Cert.ReferenceIdeal.defs _ _).mono (fun _ hr => hr 0) (Cert.ReferenceIdeal.Value.run (F := Ideal) m' g')

end Cert.HeadShard
-- ==== Proof.lean ====
/-
# The certificate

The four devices' kernels run together, end, and leave the reference's values; this file puts the claims together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim := ⟨Cert.Kernel.Gen.facts, Cert.KernelIdeal.Gen.facts, Cert.ReferenceIdeal.Gen.facts,
  Cert.HeadShard.frame_kernel, Cert.HeadShard.frame_ideal, Cert.HeadShard.frame_reference, trivial, Cert.HeadShard.algebraic⟩

end Cert.Proof

end
